-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x2048 : Shape := ⟨2, ![4096, 2048]⟩
abbrev S4096x128 : Shape := ⟨2, ![4096, 128]⟩
abbrev S3x4096x256 : Shape := ⟨3, ![3, 4096, 256]⟩
abbrev S15x256x128 : Shape := ⟨3, ![15, 256, 128]⟩
abbrev S_ : Shape := ⟨0, ![]⟩
abbrev S3x2 : Shape := ⟨2, ![3, 2]⟩
abbrev S15 : Shape := ⟨1, ![15]⟩
abbrev S1x1 : Shape := ⟨2, ![1, 1]⟩
abbrev S1x2048x256 : Shape := ⟨3, ![1, 2048, 256]⟩
abbrev S2048x256 : Shape := ⟨2, ![2048, 256]⟩
abbrev S1x4096x256 : Shape := ⟨3, ![1, 4096, 256]⟩
abbrev S4096x256 : Shape := ⟨2, ![4096, 256]⟩
abbrev S256x256 : Shape := ⟨2, ![256, 256]⟩
abbrev S256x128 : Shape := ⟨2, ![256, 128]⟩
abbrev S1x256x128 : Shape := ⟨3, ![1, 256, 128]⟩
abbrev S1 : Shape := ⟨1, ![1]⟩
abbrev S1x4096x128 : Shape := ⟨3, ![1, 4096, 128]⟩

abbrev nBuf : Space → Nat
  | .hbm => 3
  | .vmem => 5
  | .smem => 0
  | _ => 0

abbrev bufTy : (tb : Table) → Fin (tcTables nBuf tb) → BufTy
  | .hbm, ⟨0, _⟩ => ⟨S256x4096, .f32⟩
  | .hbm, ⟨1, _⟩ => ⟨S4096x2048, .f32⟩
  | .hbm, ⟨2, _⟩ => ⟨S4096x128, .f32⟩
  | .local _ .vmem, ⟨0, _⟩ => ⟨S4096x128, .f32⟩
  | .local _ .vmem, ⟨1, _⟩ => ⟨S256x4096, .f32⟩
  | .local _ .vmem, ⟨2, _⟩ => ⟨S3x4096x256, .f32⟩
  | .local _ .vmem, ⟨3, _⟩ => ⟨S15x256x128, .bf16⟩
  | .local _ .vmem, ⟨4, _⟩ => ⟨S15x256x128, .bf16⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v5 : BitVec 32 := Scalar.addi v2 c1_i32_0
  let c16_i32_1 : BitVec 32 := 16#32
  let v6 : BitVec 32 := Scalar.remsi v5 c16_i32_1
  let c1_i32_3 : BitVec 32 := 1#32
  let v7 : BitVec 32 := Scalar.muli v6 c1_i32_3
  let v8 : BitVec 32 := Scalar.addi c0_i32 v7
  v8.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_4 : BitVec 32 := 2#32
  let v9 : BitVec 32 := Scalar.addi v2 c2_i32_4
  let c16_i32_5 : BitVec 32 := 16#32
  let v10 : BitVec 32 := Scalar.remsi v9 c16_i32_5
  let c1_i32_7 : BitVec 32 := 1#32
  let v11 : BitVec 32 := Scalar.muli v10 c1_i32_7
  let v12 : BitVec 32 := Scalar.addi c0_i32_8 v11
  v12.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 32 := Scalar.addi v2 c3_i32
  let c16_i32_9 : BitVec 32 := 16#32
  let v14 : BitVec 32 := Scalar.remsi v13 c16_i32_9
  let c1_i32_11 : BitVec 32 := 1#32
  let v15 : BitVec 32 := Scalar.muli v14 c1_i32_11
  let v16 : BitVec 32 := Scalar.addi c0_i32_12 v15
  v16.toNat
def k0_dev4 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v17 : BitVec 32 := Scalar.addi v2 c4_i32
  let c16_i32_13 : BitVec 32 := 16#32
  let v18 : BitVec 32 := Scalar.remsi v17 c16_i32_13
  let c1_i32_15 : BitVec 32 := 1#32
  let v19 : BitVec 32 := Scalar.muli v18 c1_i32_15
  let v20 : BitVec 32 := Scalar.addi c0_i32_16 v19
  v20.toNat
def k0_dev5 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v21 : BitVec 32 := Scalar.addi v2 c5_i32
  let c16_i32_17 : BitVec 32 := 16#32
  let v22 : BitVec 32 := Scalar.remsi v21 c16_i32_17
  let c1_i32_19 : BitVec 32 := 1#32
  let v23 : BitVec 32 := Scalar.muli v22 c1_i32_19
  let v24 : BitVec 32 := Scalar.addi c0_i32_20 v23
  v24.toNat
def k0_dev6 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v25 : BitVec 32 := Scalar.addi v2 c6_i32
  let c16_i32_21 : BitVec 32 := 16#32
  let v26 : BitVec 32 := Scalar.remsi v25 c16_i32_21
  let c1_i32_23 : BitVec 32 := 1#32
  let v27 : BitVec 32 := Scalar.muli v26 c1_i32_23
  let v28 : BitVec 32 := Scalar.addi c0_i32_24 v27
  v28.toNat
def k0_dev7 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v29 : BitVec 32 := Scalar.addi v2 c7_i32
  let c16_i32_25 : BitVec 32 := 16#32
  let v30 : BitVec 32 := Scalar.remsi v29 c16_i32_25
  let c1_i32_27 : BitVec 32 := 1#32
  let v31 : BitVec 32 := Scalar.muli v30 c1_i32_27
  let v32 : BitVec 32 := Scalar.addi c0_i32_28 v31
  v32.toNat
def k0_dev8 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v33 : BitVec 32 := Scalar.addi v2 c8_i32
  let c16_i32_29 : BitVec 32 := 16#32
  let v34 : BitVec 32 := Scalar.remsi v33 c16_i32_29
  let c1_i32_31 : BitVec 32 := 1#32
  let v35 : BitVec 32 := Scalar.muli v34 c1_i32_31
  let v36 : BitVec 32 := Scalar.addi c0_i32_32 v35
  v36.toNat
def k0_dev9 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v37 : BitVec 32 := Scalar.addi v2 c9_i32
  let c16_i32_33 : BitVec 32 := 16#32
  let v38 : BitVec 32 := Scalar.remsi v37 c16_i32_33
  let c1_i32_35 : BitVec 32 := 1#32
  let v39 : BitVec 32 := Scalar.muli v38 c1_i32_35
  let v40 : BitVec 32 := Scalar.addi c0_i32_36 v39
  v40.toNat
def k0_dev10 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v41 : BitVec 32 := Scalar.addi v2 c10_i32
  let c16_i32_37 : BitVec 32 := 16#32
  let v42 : BitVec 32 := Scalar.remsi v41 c16_i32_37
  let c1_i32_39 : BitVec 32 := 1#32
  let v43 : BitVec 32 := Scalar.muli v42 c1_i32_39
  let v44 : BitVec 32 := Scalar.addi c0_i32_40 v43
  v44.toNat
def k0_dev11 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v45 : BitVec 32 := Scalar.addi v2 c11_i32
  let c16_i32_41 : BitVec 32 := 16#32
  let v46 : BitVec 32 := Scalar.remsi v45 c16_i32_41
  let c1_i32_43 : BitVec 32 := 1#32
  let v47 : BitVec 32 := Scalar.muli v46 c1_i32_43
  let v48 : BitVec 32 := Scalar.addi c0_i32_44 v47
  v48.toNat
def k0_dev12 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v49 : BitVec 32 := Scalar.addi v2 c12_i32
  let c16_i32_45 : BitVec 32 := 16#32
  let v50 : BitVec 32 := Scalar.remsi v49 c16_i32_45
  let c1_i32_47 : BitVec 32 := 1#32
  let v51 : BitVec 32 := Scalar.muli v50 c1_i32_47
  let v52 : BitVec 32 := Scalar.addi c0_i32_48 v51
  v52.toNat
def k0_dev13 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v53 : BitVec 32 := Scalar.addi v2 c13_i32
  let c16_i32_49 : BitVec 32 := 16#32
  let v54 : BitVec 32 := Scalar.remsi v53 c16_i32_49
  let c1_i32_51 : BitVec 32 := 1#32
  let v55 : BitVec 32 := Scalar.muli v54 c1_i32_51
  let v56 : BitVec 32 := Scalar.addi c0_i32_52 v55
  v56.toNat
def k0_dev14 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v57 : BitVec 32 := Scalar.addi v2 c14_i32
  let c16_i32_53 : BitVec 32 := 16#32
  let v58 : BitVec 32 := Scalar.remsi v57 c16_i32_53
  let c1_i32_55 : BitVec 32 := 1#32
  let v59 : BitVec 32 := Scalar.muli v58 c1_i32_55
  let v60 : BitVec 32 := Scalar.addi c0_i32_56 v59
  v60.toNat
def k0_dev15 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v61 : BitVec 32 := Scalar.addi v2 c15_i32
  let c16_i32_57 : BitVec 32 := 16#32
  let v62 : BitVec 32 := Scalar.remsi v61 c16_i32_57
  let c1_i32_59 : BitVec 32 := 1#32
  let v63 : BitVec 32 := Scalar.muli v62 c1_i32_59
  let v64 : BitVec 32 := Scalar.addi c0_i32_60 v63
  v64.toNat
def k0_off1 (d0 : Dev nD) (c0_i32_62 : BitVec 32) : Fin 2 → Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_61 : BitVec 32 := 1#32
  let v65 : BitVec 32 := Scalar.addi v3 c1_i32_61
  let v66 : BitVec 32 := Scalar.addi v65 c0_i32_62
  let c8_i32_63 : BitVec 32 := 8#32
  let v67 : BitVec 32 := Scalar.remsi v66 c8_i32_63
  let c256_i32 : BitVec 32 := 256#32
  let v68 : BitVec 32 := Scalar.muli v67 c256_i32
  ![0, v68.toNat]
def k0_off2 (d0 : Dev nD) (c0_i32_62 : BitVec 32) : Fin 2 → Nat :=
  let c2048_i32_75 : BitVec 32 := 2048#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_61 : BitVec 32 := 1#32
  let v65 : BitVec 32 := Scalar.addi v3 c1_i32_61
  let v66 : BitVec 32 := Scalar.addi v65 c0_i32_62
  let c8_i32_63 : BitVec 32 := 8#32
  let v67 : BitVec 32 := Scalar.remsi v66 c8_i32_63
  let c256_i32_64 : BitVec 32 := 256#32
  let v69 : BitVec 32 := Scalar.muli v67 c256_i32_64
  ![2048, v69.toNat]
def k0_off3 (d0 : Dev nD) : Fin 1 → Nat :=
  let c2_i32_140 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_128 : BitVec 32 := 1#32
  let v127 : BitVec 32 := Scalar.addi v3 c1_i32_128
  let c8_i32_129 : BitVec 32 := 8#32
  let v128 : BitVec 32 := Scalar.remsi v127 c8_i32_129
  let v144 : BitVec 32 := Scalar.muli c2_i32_140 v128
  let v145 : BitVec 32 := Scalar.subi v144 v2
  let c16_i32_141 : BitVec 32 := 16#32
  let v146 : BitVec 32 := Scalar.addi v145 c16_i32_141
  let c16_i32_142 : BitVec 32 := 16#32
  let v147 : BitVec 32 := Scalar.remsi v146 c16_i32_142
  let c1_i32_143 : BitVec 32 := 1#32
  let v148 : BitVec 32 := Scalar.subi v147 c1_i32_143
  ![v148.toNat]
def k0_off4 (d0 : Dev nD) : Fin 3 → Nat :=
  let c2_i32_140 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_128 : BitVec 32 := 1#32
  let v127 : BitVec 32 := Scalar.addi v3 c1_i32_128
  let c8_i32_129 : BitVec 32 := 8#32
  let v128 : BitVec 32 := Scalar.remsi v127 c8_i32_129
  let v144 : BitVec 32 := Scalar.muli c2_i32_140 v128
  let v145 : BitVec 32 := Scalar.subi v144 v2
  let c16_i32_141 : BitVec 32 := 16#32
  let v146 : BitVec 32 := Scalar.addi v145 c16_i32_141
  let c16_i32_142 : BitVec 32 := 16#32
  let v147 : BitVec 32 := Scalar.remsi v146 c16_i32_142
  let c1_i32_143 : BitVec 32 := 1#32
  let v148 : BitVec 32 := Scalar.subi v147 c1_i32_143
  let c0_i32_148 : BitVec 32 := 0#32
  let c0_i32_149 : BitVec 32 := 0#32
  ![v148.toNat, 0, 0]
def k0_dev16 (d0 : Dev nD) : Nat :=
  let c0_i32_147 : BitVec 32 := 0#32
  let c2_i32_140 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_128 : BitVec 32 := 1#32
  let v127 : BitVec 32 := Scalar.addi v3 c1_i32_128
  let c8_i32_129 : BitVec 32 := 8#32
  let v128 : BitVec 32 := Scalar.remsi v127 c8_i32_129
  let v144 : BitVec 32 := Scalar.muli c2_i32_140 v128
  let c1_i32_146 : BitVec 32 := 1#32
  let v149 : BitVec 32 := Scalar.muli v144 c1_i32_146
  let v150 : BitVec 32 := Scalar.addi c0_i32_147 v149
  v150.toNat
def k0_off5 (d0 : Dev nD) : Fin 1 → Nat :=
  let c2_i32_152 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_128 : BitVec 32 := 1#32
  let v127 : BitVec 32 := Scalar.addi v3 c1_i32_128
  let c8_i32_129 : BitVec 32 := 8#32
  let v128 : BitVec 32 := Scalar.remsi v127 c8_i32_129
  let v159 : BitVec 32 := Scalar.muli c2_i32_152 v128
  let c1_i32_153 : BitVec 32 := 1#32
  let v160 : BitVec 32 := Scalar.addi v159 c1_i32_153
  let v161 : BitVec 32 := Scalar.subi v160 v2
  let c16_i32_154 : BitVec 32 := 16#32
  let v162 : BitVec 32 := Scalar.addi v161 c16_i32_154
  let c16_i32_155 : BitVec 32 := 16#32
  let v163 : BitVec 32 := Scalar.remsi v162 c16_i32_155
  let c1_i32_156 : BitVec 32 := 1#32
  let v164 : BitVec 32 := Scalar.subi v163 c1_i32_156
  ![v164.toNat]
def k0_off6 (d0 : Dev nD) : Fin 3 → Nat :=
  let c2_i32_152 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_128 : BitVec 32 := 1#32
  let v127 : BitVec 32 := Scalar.addi v3 c1_i32_128
  let c8_i32_129 : BitVec 32 := 8#32
  let v128 : BitVec 32 := Scalar.remsi v127 c8_i32_129
  let v159 : BitVec 32 := Scalar.muli c2_i32_152 v128
  let c1_i32_153 : BitVec 32 := 1#32
  let v160 : BitVec 32 := Scalar.addi v159 c1_i32_153
  let v161 : BitVec 32 := Scalar.subi v160 v2
  let c16_i32_154 : BitVec 32 := 16#32
  let v162 : BitVec 32 := Scalar.addi v161 c16_i32_154
  let c16_i32_155 : BitVec 32 := 16#32
  let v163 : BitVec 32 := Scalar.remsi v162 c16_i32_155
  let c1_i32_156 : BitVec 32 := 1#32
  let v164 : BitVec 32 := Scalar.subi v163 c1_i32_156
  let c0_i32_161 : BitVec 32 := 0#32
  let c0_i32_162 : BitVec 32 := 0#32
  ![v164.toNat, 0, 0]
def k0_dev17 (d0 : Dev nD) : Nat :=
  let c0_i32_160 : BitVec 32 := 0#32
  let c2_i32_152 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_128 : BitVec 32 := 1#32
  let v127 : BitVec 32 := Scalar.addi v3 c1_i32_128
  let c8_i32_129 : BitVec 32 := 8#32
  let v128 : BitVec 32 := Scalar.remsi v127 c8_i32_129
  let v159 : BitVec 32 := Scalar.muli c2_i32_152 v128
  let c1_i32_153 : BitVec 32 := 1#32
  let v160 : BitVec 32 := Scalar.addi v159 c1_i32_153
  let c1_i32_159 : BitVec 32 := 1#32
  let v165 : BitVec 32 := Scalar.muli v160 c1_i32_159
  let v166 : BitVec 32 := Scalar.addi c0_i32_160 v165
  v166.toNat
def k0_off7 (d0 : Dev nD) (c1_i32_200 : BitVec 32) : Fin 1 → Nat :=
  let c2_i32_209 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_199 : BitVec 32 := 1#32
  let v205 : BitVec 32 := Scalar.addi v3 c1_i32_199
  let v206 : BitVec 32 := Scalar.addi v205 c1_i32_200
  let c8_i32_201 : BitVec 32 := 8#32
  let v207 : BitVec 32 := Scalar.remsi v206 c8_i32_201
  let v219 : BitVec 32 := Scalar.muli c2_i32_209 v207
  let v220 : BitVec 32 := Scalar.subi v219 v2
  let c16_i32_210 : BitVec 32 := 16#32
  let v221 : BitVec 32 := Scalar.addi v220 c16_i32_210
  let c16_i32_211 : BitVec 32 := 16#32
  let v222 : BitVec 32 := Scalar.remsi v221 c16_i32_211
  let c1_i32_212 : BitVec 32 := 1#32
  let v223 : BitVec 32 := Scalar.subi v222 c1_i32_212
  ![v223.toNat]
def k0_off8 (d0 : Dev nD) (c1_i32_200 : BitVec 32) : Fin 3 → Nat :=
  let c2_i32_209 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_199 : BitVec 32 := 1#32
  let v205 : BitVec 32 := Scalar.addi v3 c1_i32_199
  let v206 : BitVec 32 := Scalar.addi v205 c1_i32_200
  let c8_i32_201 : BitVec 32 := 8#32
  let v207 : BitVec 32 := Scalar.remsi v206 c8_i32_201
  let v219 : BitVec 32 := Scalar.muli c2_i32_209 v207
  let v220 : BitVec 32 := Scalar.subi v219 v2
  let c16_i32_210 : BitVec 32 := 16#32
  let v221 : BitVec 32 := Scalar.addi v220 c16_i32_210
  let c16_i32_211 : BitVec 32 := 16#32
  let v222 : BitVec 32 := Scalar.remsi v221 c16_i32_211
  let c1_i32_212 : BitVec 32 := 1#32
  let v223 : BitVec 32 := Scalar.subi v222 c1_i32_212
  let c0_i32_217 : BitVec 32 := 0#32
  let c0_i32_218 : BitVec 32 := 0#32
  ![v223.toNat, 0, 0]
def k0_dev18 (d0 : Dev nD) : Nat :=
  let c0_i32_216 : BitVec 32 := 0#32
  let c2_i32_209 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_199 : BitVec 32 := 1#32
  let v205 : BitVec 32 := Scalar.addi v3 c1_i32_199
  let c1_i32_200 : BitVec 32 := 1#32
  let v206 : BitVec 32 := Scalar.addi v205 c1_i32_200
  let c8_i32_201 : BitVec 32 := 8#32
  let v207 : BitVec 32 := Scalar.remsi v206 c8_i32_201
  let v219 : BitVec 32 := Scalar.muli c2_i32_209 v207
  let c1_i32_215 : BitVec 32 := 1#32
  let v224 : BitVec 32 := Scalar.muli v219 c1_i32_215
  let v225 : BitVec 32 := Scalar.addi c0_i32_216 v224
  v225.toNat
def k0_off9 (d0 : Dev nD) (c1_i32_200 : BitVec 32) : Fin 1 → Nat :=
  let c2_i32_223 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_199 : BitVec 32 := 1#32
  let v205 : BitVec 32 := Scalar.addi v3 c1_i32_199
  let v206 : BitVec 32 := Scalar.addi v205 c1_i32_200
  let c8_i32_201 : BitVec 32 := 8#32
  let v207 : BitVec 32 := Scalar.remsi v206 c8_i32_201
  let v238 : BitVec 32 := Scalar.muli c2_i32_223 v207
  let c1_i32_224 : BitVec 32 := 1#32
  let v239 : BitVec 32 := Scalar.addi v238 c1_i32_224
  let v240 : BitVec 32 := Scalar.subi v239 v2
  let c16_i32_225 : BitVec 32 := 16#32
  let v241 : BitVec 32 := Scalar.addi v240 c16_i32_225
  let c16_i32_226 : BitVec 32 := 16#32
  let v242 : BitVec 32 := Scalar.remsi v241 c16_i32_226
  let c1_i32_227 : BitVec 32 := 1#32
  let v243 : BitVec 32 := Scalar.subi v242 c1_i32_227
  ![v243.toNat]
def k0_off10 (d0 : Dev nD) (c1_i32_200 : BitVec 32) : Fin 3 → Nat :=
  let c2_i32_223 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_199 : BitVec 32 := 1#32
  let v205 : BitVec 32 := Scalar.addi v3 c1_i32_199
  let v206 : BitVec 32 := Scalar.addi v205 c1_i32_200
  let c8_i32_201 : BitVec 32 := 8#32
  let v207 : BitVec 32 := Scalar.remsi v206 c8_i32_201
  let v238 : BitVec 32 := Scalar.muli c2_i32_223 v207
  let c1_i32_224 : BitVec 32 := 1#32
  let v239 : BitVec 32 := Scalar.addi v238 c1_i32_224
  let v240 : BitVec 32 := Scalar.subi v239 v2
  let c16_i32_225 : BitVec 32 := 16#32
  let v241 : BitVec 32 := Scalar.addi v240 c16_i32_225
  let c16_i32_226 : BitVec 32 := 16#32
  let v242 : BitVec 32 := Scalar.remsi v241 c16_i32_226
  let c1_i32_227 : BitVec 32 := 1#32
  let v243 : BitVec 32 := Scalar.subi v242 c1_i32_227
  let c0_i32_232 : BitVec 32 := 0#32
  let c0_i32_233 : BitVec 32 := 0#32
  ![v243.toNat, 0, 0]
def k0_dev19 (d0 : Dev nD) : Nat :=
  let c0_i32_231 : BitVec 32 := 0#32
  let c2_i32_223 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_199 : BitVec 32 := 1#32
  let v205 : BitVec 32 := Scalar.addi v3 c1_i32_199
  let c1_i32_200 : BitVec 32 := 1#32
  let v206 : BitVec 32 := Scalar.addi v205 c1_i32_200
  let c8_i32_201 : BitVec 32 := 8#32
  let v207 : BitVec 32 := Scalar.remsi v206 c8_i32_201
  let v238 : BitVec 32 := Scalar.muli c2_i32_223 v207
  let c1_i32_224 : BitVec 32 := 1#32
  let v239 : BitVec 32 := Scalar.addi v238 c1_i32_224
  let c1_i32_230 : BitVec 32 := 1#32
  let v244 : BitVec 32 := Scalar.muli v239 c1_i32_230
  let v245 : BitVec 32 := Scalar.addi c0_i32_231 v244
  v245.toNat
def k0_dev20 (d0 : Dev nD) : Nat :=
  let c0_i32_287 : BitVec 32 := 0#32
  let c2_i32_280 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_270 : BitVec 32 := 1#32
  let v284 : BitVec 32 := Scalar.addi v3 c1_i32_270
  let c2_i32_271 : BitVec 32 := 2#32
  let v285 : BitVec 32 := Scalar.addi v284 c2_i32_271
  let c8_i32_272 : BitVec 32 := 8#32
  let v286 : BitVec 32 := Scalar.remsi v285 c8_i32_272
  let v298 : BitVec 32 := Scalar.muli c2_i32_280 v286
  let c1_i32_286 : BitVec 32 := 1#32
  let v303 : BitVec 32 := Scalar.muli v298 c1_i32_286
  let v304 : BitVec 32 := Scalar.addi c0_i32_287 v303
  v304.toNat
def k0_dev21 (d0 : Dev nD) : Nat :=
  let c0_i32_302 : BitVec 32 := 0#32
  let c2_i32_294 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_270 : BitVec 32 := 1#32
  let v284 : BitVec 32 := Scalar.addi v3 c1_i32_270
  let c2_i32_271 : BitVec 32 := 2#32
  let v285 : BitVec 32 := Scalar.addi v284 c2_i32_271
  let c8_i32_272 : BitVec 32 := 8#32
  let v286 : BitVec 32 := Scalar.remsi v285 c8_i32_272
  let v317 : BitVec 32 := Scalar.muli c2_i32_294 v286
  let c1_i32_295 : BitVec 32 := 1#32
  let v318 : BitVec 32 := Scalar.addi v317 c1_i32_295
  let c1_i32_301 : BitVec 32 := 1#32
  let v323 : BitVec 32 := Scalar.muli v318 c1_i32_301
  let v324 : BitVec 32 := Scalar.addi c0_i32_302 v323
  v324.toNat
def k0_dev22 (d0 : Dev nD) : Nat :=
  let c0_i32_358 : BitVec 32 := 0#32
  let c2_i32_351 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_341 : BitVec 32 := 1#32
  let v363 : BitVec 32 := Scalar.addi v3 c1_i32_341
  let c3_i32_342 : BitVec 32 := 3#32
  let v364 : BitVec 32 := Scalar.addi v363 c3_i32_342
  let c8_i32_343 : BitVec 32 := 8#32
  let v365 : BitVec 32 := Scalar.remsi v364 c8_i32_343
  let v377 : BitVec 32 := Scalar.muli c2_i32_351 v365
  let c1_i32_357 : BitVec 32 := 1#32
  let v382 : BitVec 32 := Scalar.muli v377 c1_i32_357
  let v383 : BitVec 32 := Scalar.addi c0_i32_358 v382
  v383.toNat
def k0_dev23 (d0 : Dev nD) : Nat :=
  let c0_i32_373 : BitVec 32 := 0#32
  let c2_i32_365 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_341 : BitVec 32 := 1#32
  let v363 : BitVec 32 := Scalar.addi v3 c1_i32_341
  let c3_i32_342 : BitVec 32 := 3#32
  let v364 : BitVec 32 := Scalar.addi v363 c3_i32_342
  let c8_i32_343 : BitVec 32 := 8#32
  let v365 : BitVec 32 := Scalar.remsi v364 c8_i32_343
  let v396 : BitVec 32 := Scalar.muli c2_i32_365 v365
  let c1_i32_366 : BitVec 32 := 1#32
  let v397 : BitVec 32 := Scalar.addi v396 c1_i32_366
  let c1_i32_372 : BitVec 32 := 1#32
  let v402 : BitVec 32 := Scalar.muli v397 c1_i32_372
  let v403 : BitVec 32 := Scalar.addi c0_i32_373 v402
  v403.toNat
def k0_dev24 (d0 : Dev nD) : Nat :=
  let c0_i32_429 : BitVec 32 := 0#32
  let c2_i32_422 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_412 : BitVec 32 := 1#32
  let v442 : BitVec 32 := Scalar.addi v3 c1_i32_412
  let c4_i32_413 : BitVec 32 := 4#32
  let v443 : BitVec 32 := Scalar.addi v442 c4_i32_413
  let c8_i32_414 : BitVec 32 := 8#32
  let v444 : BitVec 32 := Scalar.remsi v443 c8_i32_414
  let v456 : BitVec 32 := Scalar.muli c2_i32_422 v444
  let c1_i32_428 : BitVec 32 := 1#32
  let v461 : BitVec 32 := Scalar.muli v456 c1_i32_428
  let v462 : BitVec 32 := Scalar.addi c0_i32_429 v461
  v462.toNat
def k0_dev25 (d0 : Dev nD) : Nat :=
  let c0_i32_444 : BitVec 32 := 0#32
  let c2_i32_436 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_412 : BitVec 32 := 1#32
  let v442 : BitVec 32 := Scalar.addi v3 c1_i32_412
  let c4_i32_413 : BitVec 32 := 4#32
  let v443 : BitVec 32 := Scalar.addi v442 c4_i32_413
  let c8_i32_414 : BitVec 32 := 8#32
  let v444 : BitVec 32 := Scalar.remsi v443 c8_i32_414
  let v475 : BitVec 32 := Scalar.muli c2_i32_436 v444
  let c1_i32_437 : BitVec 32 := 1#32
  let v476 : BitVec 32 := Scalar.addi v475 c1_i32_437
  let c1_i32_443 : BitVec 32 := 1#32
  let v481 : BitVec 32 := Scalar.muli v476 c1_i32_443
  let v482 : BitVec 32 := Scalar.addi c0_i32_444 v481
  v482.toNat
def k0_dev26 (d0 : Dev nD) : Nat :=
  let c0_i32_500 : BitVec 32 := 0#32
  let c2_i32_493 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_483 : BitVec 32 := 1#32
  let v521 : BitVec 32 := Scalar.addi v3 c1_i32_483
  let c5_i32_484 : BitVec 32 := 5#32
  let v522 : BitVec 32 := Scalar.addi v521 c5_i32_484
  let c8_i32_485 : BitVec 32 := 8#32
  let v523 : BitVec 32 := Scalar.remsi v522 c8_i32_485
  let v535 : BitVec 32 := Scalar.muli c2_i32_493 v523
  let c1_i32_499 : BitVec 32 := 1#32
  let v540 : BitVec 32 := Scalar.muli v535 c1_i32_499
  let v541 : BitVec 32 := Scalar.addi c0_i32_500 v540
  v541.toNat
def k0_dev27 (d0 : Dev nD) : Nat :=
  let c0_i32_515 : BitVec 32 := 0#32
  let c2_i32_507 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_483 : BitVec 32 := 1#32
  let v521 : BitVec 32 := Scalar.addi v3 c1_i32_483
  let c5_i32_484 : BitVec 32 := 5#32
  let v522 : BitVec 32 := Scalar.addi v521 c5_i32_484
  let c8_i32_485 : BitVec 32 := 8#32
  let v523 : BitVec 32 := Scalar.remsi v522 c8_i32_485
  let v554 : BitVec 32 := Scalar.muli c2_i32_507 v523
  let c1_i32_508 : BitVec 32 := 1#32
  let v555 : BitVec 32 := Scalar.addi v554 c1_i32_508
  let c1_i32_514 : BitVec 32 := 1#32
  let v560 : BitVec 32 := Scalar.muli v555 c1_i32_514
  let v561 : BitVec 32 := Scalar.addi c0_i32_515 v560
  v561.toNat
def k0_dev28 (d0 : Dev nD) : Nat :=
  let c0_i32_554 : BitVec 32 := 0#32
  let c2_i32_547 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_537 : BitVec 32 := 1#32
  let v585 : BitVec 32 := Scalar.addi v3 c1_i32_537
  let c6_i32_538 : BitVec 32 := 6#32
  let v586 : BitVec 32 := Scalar.addi v585 c6_i32_538
  let c8_i32_539 : BitVec 32 := 8#32
  let v587 : BitVec 32 := Scalar.remsi v586 c8_i32_539
  let v599 : BitVec 32 := Scalar.muli c2_i32_547 v587
  let c1_i32_553 : BitVec 32 := 1#32
  let v604 : BitVec 32 := Scalar.muli v599 c1_i32_553
  let v605 : BitVec 32 := Scalar.addi c0_i32_554 v604
  v605.toNat
def k0_dev29 (d0 : Dev nD) : Nat :=
  let c0_i32_569 : BitVec 32 := 0#32
  let c2_i32_561 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_537 : BitVec 32 := 1#32
  let v585 : BitVec 32 := Scalar.addi v3 c1_i32_537
  let c6_i32_538 : BitVec 32 := 6#32
  let v586 : BitVec 32 := Scalar.addi v585 c6_i32_538
  let c8_i32_539 : BitVec 32 := 8#32
  let v587 : BitVec 32 := Scalar.remsi v586 c8_i32_539
  let v618 : BitVec 32 := Scalar.muli c2_i32_561 v587
  let c1_i32_562 : BitVec 32 := 1#32
  let v619 : BitVec 32 := Scalar.addi v618 c1_i32_562
  let c1_i32_568 : BitVec 32 := 1#32
  let v624 : BitVec 32 := Scalar.muli v619 c1_i32_568
  let v625 : BitVec 32 := Scalar.addi c0_i32_569 v624
  v625.toNat
def k0_off11 (d0 : Dev nD) : Fin 3 → Nat :=
  let c1_595 : Index := 1#32
  let c0_596 : Index := 0#32
  let c1_i32_594 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_591 : BitVec 32 := 2#32
  let v649 : BitVec 32 := Scalar.remsi v2 c2_i32_591
  let v653 : BitVec 32 := Scalar.subi c1_i32_594 v649
  let c128_i32 : BitVec 32 := 128#32
  let v654 : BitVec 32 := Scalar.muli v653 c128_i32
  let v655 : Index := Scalar.indexCast v654
  ![1, 0, v655.toNat]
def k0_off12 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_592 : BitVec 32 := 1#32
  let v650 : BitVec 32 := Scalar.addi v2 c1_i32_592
  let c2_i32_593 : BitVec 32 := 2#32
  let c2_i32_591 : BitVec 32 := 2#32
  let v649 : BitVec 32 := Scalar.remsi v2 c2_i32_591
  let v651 : BitVec 32 := Scalar.muli c2_i32_593 v649
  let v652 : BitVec 32 := Scalar.subi v650 v651
  let v666 : BitVec 32 := Scalar.subi v652 v2
  let c16_i32_601 : BitVec 32 := 16#32
  let v667 : BitVec 32 := Scalar.addi v666 c16_i32_601
  let c16_i32_602 : BitVec 32 := 16#32
  let v668 : BitVec 32 := Scalar.remsi v667 c16_i32_602
  let c1_i32_603 : BitVec 32 := 1#32
  let v669 : BitVec 32 := Scalar.subi v668 c1_i32_603
  ![v669.toNat]
def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_592 : BitVec 32 := 1#32
  let v650 : BitVec 32 := Scalar.addi v2 c1_i32_592
  let c2_i32_593 : BitVec 32 := 2#32
  let c2_i32_591 : BitVec 32 := 2#32
  let v649 : BitVec 32 := Scalar.remsi v2 c2_i32_591
  let v651 : BitVec 32 := Scalar.muli c2_i32_593 v649
  let v652 : BitVec 32 := Scalar.subi v650 v651
  let v666 : BitVec 32 := Scalar.subi v652 v2
  let c16_i32_601 : BitVec 32 := 16#32
  let v667 : BitVec 32 := Scalar.addi v666 c16_i32_601
  let c16_i32_602 : BitVec 32 := 16#32
  let v668 : BitVec 32 := Scalar.remsi v667 c16_i32_602
  let c1_i32_603 : BitVec 32 := 1#32
  let v669 : BitVec 32 := Scalar.subi v668 c1_i32_603
  let c0_i32_608 : BitVec 32 := 0#32
  let c0_i32_609 : BitVec 32 := 0#32
  ![v669.toNat, 0, 0]
def k0_dev30 (d0 : Dev nD) : Nat :=
  let c0_i32_607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_592 : BitVec 32 := 1#32
  let v650 : BitVec 32 := Scalar.addi v2 c1_i32_592
  let c2_i32_593 : BitVec 32 := 2#32
  let c2_i32_591 : BitVec 32 := 2#32
  let v649 : BitVec 32 := Scalar.remsi v2 c2_i32_591
  let v651 : BitVec 32 := Scalar.muli c2_i32_593 v649
  let v652 : BitVec 32 := Scalar.subi v650 v651
  let c1_i32_606 : BitVec 32 := 1#32
  let v670 : BitVec 32 := Scalar.muli v652 c1_i32_606
  let v671 : BitVec 32 := Scalar.addi c0_i32_607 v670
  v671.toNat
def k0_off14 (d0 : Dev nD) : Fin 3 → Nat :=
  let c1_613 : Index := 1#32
  let c0_614 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_591 : BitVec 32 := 2#32
  let v649 : BitVec 32 := Scalar.remsi v2 c2_i32_591
  let c128_i32_612 : BitVec 32 := 128#32
  let v680 : BitVec 32 := Scalar.muli v649 c128_i32_612
  let v681 : Index := Scalar.indexCast v680
  ![1, 0, v681.toNat]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_617 : BitVec 32 := 256#32
  let v688 : BitVec 32 := Scalar.muli v2 c256_i32_617
  let v689 : Index := Scalar.indexCast v688
  let c0_618 : Index := 0#32
  ![v689.toNat, 0]
def k0_off16 (d0 : Dev nD) (c2_i32_619 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v691 : BitVec 32 := Scalar.subi v2 c2_i32_619
  let c16_i32_620 : BitVec 32 := 16#32
  let v692 : BitVec 32 := Scalar.addi v691 c16_i32_620
  let c16_i32_621 : BitVec 32 := 16#32
  let v693 : BitVec 32 := Scalar.remsi v692 c16_i32_621
  let c256_i32_635 : BitVec 32 := 256#32
  let v705 : BitVec 32 := Scalar.muli v693 c256_i32_635
  let v706 : Index := Scalar.indexCast v705
  let c0_636 : Index := 0#32
  ![v706.toNat, 0]
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Maps.lean ====
/-
# Maps: which device talks to which, and through which slot

Sixteen devices. Device `c` hands each other device one 256×128 block. This module names the device at a given distance,
the receive slot a send lands in, and states in closed form every device number and every offset the kernel computes.
-/
module

public import proofs.«01_k».proof.Proof.Gen.KernelIdeal
public import proofs.«01_k».proof.Proof.Gen.KernelIdeal.Skeleton

@[expose] public section

namespace Cert.Relay

open Cert.KernelIdeal Cert.KernelIdeal.Gen
open Idealize.ShloMosaic

set_option backward.proofsInPublic true in
/-- The device `k + 1` places after `c`. -/
def peer (c : Dev nD) (k : Fin 15) : Dev nD := ⟨(c.val + k.val + 1) % 16, Nat.mod_lt _ (by decide)⟩

/-- Going `k + 1` places forward and then the complementary distance forward comes back. -/
theorem peer_rev (c : Dev nD) (k : Fin 15) : peer (peer c k) k.rev = c := by revert c k; decide +kernel
theorem peer_rev' (c : Dev nD) (k : Fin 15) : peer (peer c k.rev) k = c := by revert c k; decide +kernel
/-- Another device is never the device itself. -/
theorem peer_ne (c : Dev nD) (k : Fin 15) : peer c k ≠ c := by revert c k; decide +kernel
/-- Different distances reach different devices. -/
theorem peer_inj (c : Dev nD) {k k' : Fin 15} (h : peer c k = peer c k') : k = k' := by revert c k k'; decide +kernel

/-- All devices `k + 1` places on, as a permutation of the devices. -/
def shift (k : Fin 15) : Dev nD ≃ Dev nD := ⟨fun c => peer c k, fun c => peer c k.rev, fun c => peer_rev c k, fun c => peer_rev' c k⟩

/-- The receive slot device `c`'s send slot lands in (at whichever device it is sent to): an even device's sends land one
    slot on, cyclically, an odd device's in the slot of the same number. -/
def land (c : Dev nD) : Fin 15 ≃ Fin 15 where
  toFun ss := if c.val % 2 = 0 then ss + 1 else ss
  invFun sl := if c.val % 2 = 0 then sl - 1 else sl
  left_inv ss := by
    split
    · exact (by decide : ∀ s : Fin 15, s + 1 - 1 = s) ss
    · rfl
  right_inv sl := by
    split
    · exact (by decide : ∀ s : Fin 15, s - 1 + 1 = s) sl
    · rfl

/-- The device `c`'s send slot `ss` goes to. -/
def tgt (c : Dev nD) (ss : Fin 15) : Dev nD := peer c (land c ss)

/-! ## What the kernel computes -/

/-- The devices of the fifteen entry signals, in program order. -/
def sigDev : Fin 15 → Dev nD → ℕ
  | 0, c => k0_dev1 c
  | 1, c => k0_dev2 c
  | 2, c => k0_dev3 c
  | 3, c => k0_dev4 c
  | 4, c => k0_dev5 c
  | 5, c => k0_dev6 c
  | 6, c => k0_dev7 c
  | 7, c => k0_dev8 c
  | 8, c => k0_dev9 c
  | 9, c => k0_dev10 c
  | 10, c => k0_dev11 c
  | 11, c => k0_dev12 c
  | 12, c => k0_dev13 c
  | 13, c => k0_dev14 c
  | 14, c => k0_dev15 c
theorem sigDev_eq : ∀ (k : Fin 15) (c : Dev nD), sigDev k c = (peer c k).val := by decide +kernel

/-- The devices of the fifteen sends, in program order. -/
def sendDev : Fin 15 → Dev nD → ℕ
  | 0, c => k0_dev16 c
  | 1, c => k0_dev17 c
  | 2, c => k0_dev18 c
  | 3, c => k0_dev19 c
  | 4, c => k0_dev20 c
  | 5, c => k0_dev21 c
  | 6, c => k0_dev22 c
  | 7, c => k0_dev23 c
  | 8, c => k0_dev24 c
  | 9, c => k0_dev25 c
  | 10, c => k0_dev26 c
  | 11, c => k0_dev27 c
  | 12, c => k0_dev28 c
  | 13, c => k0_dev29 c
  | 14, c => k0_dev30 c
theorem sendDev_eq : ∀ (ss : Fin 15) (c : Dev nD), sendDev ss c = (tgt c ss).val := by decide +kernel

/-- The receive slots the fifteen sends name, in program order. -/
def sendOff : Fin 15 → Dev nD → Fin 3 → ℕ
  | 0, c => k0_off4 c
  | 1, c => k0_off6 c
  | 2, c => k0_off8 c 1#32
  | 3, c => k0_off10 c 1#32
  | 4, c => k0_off8 c 2#32
  | 5, c => k0_off10 c 2#32
  | 6, c => k0_off8 c 3#32
  | 7, c => k0_off10 c 3#32
  | 8, c => k0_off8 c 4#32
  | 9, c => k0_off10 c 4#32
  | 10, c => k0_off8 c 5#32
  | 11, c => k0_off10 c 5#32
  | 12, c => k0_off8 c 6#32
  | 13, c => k0_off10 c 6#32
  | 14, c => k0_off13 c
theorem sendOff_eq : ∀ (ss : Fin 15) (c : Dev nD), sendOff ss c = ![(land c ss).val, 0, 0] := by decide +kernel

/-- The receive semaphores the fifteen sends name, in program order. -/
def sendSemOff : Fin 15 → Dev nD → Fin 1 → ℕ
  | 0, c => k0_off3 c
  | 1, c => k0_off5 c
  | 2, c => k0_off7 c 1#32
  | 3, c => k0_off9 c 1#32
  | 4, c => k0_off7 c 2#32
  | 5, c => k0_off9 c 2#32
  | 6, c => k0_off7 c 3#32
  | 7, c => k0_off9 c 3#32
  | 8, c => k0_off7 c 4#32
  | 9, c => k0_off9 c 4#32
  | 10, c => k0_off7 c 5#32
  | 11, c => k0_off9 c 5#32
  | 12, c => k0_off7 c 6#32
  | 13, c => k0_off9 c 6#32
  | 14, c => k0_off12 c
theorem sendSemOff_eq : ∀ (ss : Fin 15) (c : Dev nD), sendSemOff ss c = ![(land c ss).val] := by decide +kernel

/-! The same, for an operation's own device or offset, once it is identified as that of the list. -/

theorem sig_dev (k : Fin 15) (c : Dev nD) {n : ℕ} {h : n < nD} (e : n = sigDev k c) : (⟨n, h⟩ : Dev nD) = peer c k := Fin.ext (e.trans (sigDev_eq k c))
theorem send_dev (k : Fin 15) (c : Dev nD) {n : ℕ} {h : n < nD} (e : n = sendDev k c) : (⟨n, h⟩ : Dev nD) = tgt c k := Fin.ext (e.trans (sendDev_eq k c))
theorem send_off (k : Fin 15) (c : Dev nD) {off : Fin 3 → ℕ} (e : off = sendOff k c) : off = ![(land c k).val, 0, 0] := e.trans (sendOff_eq k c)
theorem send_sem (k : Fin 15) (c : Dev nD) {off : Fin 1 → ℕ} (e : off = sendSemOff k c) : off = ![(land c k).val] := e.trans (sendSemOff_eq k c)

/-- The rows of the output the block received in slot `sl` goes to: those of the device `sl + 1` places before. -/
def rowOff : Fin 15 → Dev nD → Fin 2 → ℕ := fun sl c => k0_off16 c (BitVec.ofNat 32 (sl.val + 1))
theorem rowOff_eq : ∀ (sl : Fin 15) (c : Dev nD), rowOff sl c = ![256 * (peer c sl.rev).val, 0] := by decide +kernel
theorem row_off (sl : Fin 15) (c : Dev nD) {off : Fin 2 → ℕ} (e : off = rowOff sl c) : off = ![256 * (peer c sl.rev).val, 0] := e.trans (rowOff_eq sl c)

/-- The column tile of the weights the `jj`-th pass multiplies by. -/
def tileOf (c : Dev nD) (jj : ℕ) : ℕ := (c.val / 2 + jj + 1) % 8
/-- The two halves of it the kernel copies in. -/
theorem loOff_eq : ∀ (c : Dev nD) (jj : Fin 8), k0_off1 c (BitVec.ofNat 32 jj.val) = ![0, 256 * tileOf c jj.val] := by decide +kernel
theorem hiOff_eq : ∀ (c : Dev nD) (jj : Fin 8), k0_off2 c (BitVec.ofNat 32 jj.val) = ![2048, 256 * tileOf c jj.val] := by decide +kernel

/-- The partner: the device sharing the last tile. -/
theorem tgt_last : ∀ c : Dev nD, 256 * tileOf c 7 + (128 - 128 * (c.val % 2)) = 128 * (tgt c 14).val := by decide +kernel
theorem own_last : ∀ c : Dev nD, 256 * tileOf c 7 + 128 * (c.val % 2) = 128 * c.val := by decide +kernel
/-- The earlier sends' columns. -/
theorem tgt_even : ∀ (c : Dev nD) (jj : Fin 7), 256 * tileOf c jj.val = 128 * (tgt c ⟨2 * jj.val, by omega⟩).val := by decide +kernel
theorem tgt_odd : ∀ (c : Dev nD) (jj : Fin 7), 256 * tileOf c jj.val + 128 = 128 * (tgt c ⟨2 * jj.val + 1, by omega⟩).val := by decide +kernel
/-- The columns of the last tile's slot the partner's block, and the device's own, are computed from; the output's own rows. -/
theorem off11_eq : ∀ c : Dev nD, k0_off11 c = ![1, 0, 128 - 128 * (c.val % 2)] := by decide +kernel
theorem off14_eq : ∀ c : Dev nD, k0_off14 c = ![1, 0, 128 * (c.val % 2)] := by decide +kernel
theorem off15_eq : ∀ c : Dev nD, k0_off15 c = ![256 * c.val, 0] := by decide +kernel

end Cert.Relay
-- ==== Proof.Contents.lean ====
/-
# Contents: what every buffer holds, as one function of its indices, and what the kernel's boxes read of it

Each buffer of a device gets ONE function describing everything the run ever leaves in it; a box of the buffer is then
known by what a load through it reads. All statements are for any float values.
-/
module

public import proofs.«01_k».proof.Proof.Maps
public import Idealize.ShloMosaic.Lib.Tactic
public import Idealize.ShloMosaic.Lib.Pipeline.Value

@[expose] public section

noncomputable section

namespace Cert.Relay

open Cert.KernelIdeal Cert.KernelIdeal.Gen
open Idealize.ShloMosaic
open Idealize.ShloMosaic.TcCoe
open Idealize.SL Idealize.SL.RA Idealize.SL.BI
open scoped Idealize.SL.BI
open Idealize.SL.Sem

variable {F : FTy → Type}

/-! ## The memrefs the kernel addresses -/

abbrev xH : Memref sig .tc .hbm S256x4096 .f32 := Memref.whole main_arg0
abbrev wH : Memref sig .tc .hbm S4096x2048 .f32 := Memref.whole main_arg1
abbrev oM : Memref sig .tc .vmem S4096x128 .f32 := Memref.whole cc0_stg0_0
abbrev xM : Memref sig .tc .vmem S256x4096 .f32 := Memref.whole cc0_scratch0
abbrev wM : Memref sig .tc .vmem S3x4096x256 .f32 := Memref.whole cc0_scratch1
abbrev sM : Memref sig .tc .vmem S15x256x128 .bf16 := Memref.whole cc0_scratch2
abbrev rM : Memref sig .tc .vmem S15x256x128 .bf16 := Memref.whole cc0_scratch3

theorem slot_inb (k : Fin 15) : ∀ a, (![k.val, 0, 0] : Fin 3 → ℕ) a + S1x256x128.size a ≤ S15x256x128.size a := by revert k; decide
theorem tile_inb (s : Fin 3) : ∀ a, (![s.val, 0, 0] : Fin 3 → ℕ) a + S1x4096x256.size a ≤ S3x4096x256.size a := by revert s; decide
theorem half_inb (s : Fin 3) (h : Fin 2) : ∀ a, (![s.val, 2048 * h.val, 0] : Fin 3 → ℕ) a + S1x2048x256.size a ≤ S3x4096x256.size a := by
  revert s h; decide
theorem rows_inb (c : Dev nD) : ∀ a, (![256 * c.val, 0] : Fin 2 → ℕ) a + S256x128.size a ≤ S4096x128.size a := by revert c; decide
theorem cols_inb (h : Fin 2) (j : Fin 8) : ∀ a, (![2048 * h.val, 256 * j.val] : Fin 2 → ℕ) a + S2048x256.size a ≤ S4096x2048.size a := by
  revert h j; decide

/-- A slot of the send or receive buffer; a slot of the weight buffer, and its upper or lower half; the output's rows of one
    device; half a column tile of the weights. -/
abbrev slotR (k : Fin 15) : Rect S15x256x128 := Rect.unit (s := S15x256x128) ![k.val, 0, 0] S1x256x128.size (slot_inb k)
abbrev tileR (s : Fin 3) : Rect S3x4096x256 := Rect.unit (s := S3x4096x256) ![s.val, 0, 0] S1x4096x256.size (tile_inb s)
abbrev halfR (s : Fin 3) (h : Fin 2) : Rect S3x4096x256 := Rect.unit (s := S3x4096x256) ![s.val, 2048 * h.val, 0] S1x2048x256.size (half_inb s h)
abbrev rowsR (c : Dev nD) : Rect S4096x128 := Rect.unit (s := S4096x128) ![256 * c.val, 0] S256x128.size (rows_inb c)
abbrev colsR (h : Fin 2) (j : Fin 8) : Rect S4096x2048 := Rect.unit (s := S4096x2048) ![2048 * h.val, 256 * j.val] S2048x256.size (cols_inb h j)

abbrev sSlot (k : Fin 15) : Memref sig .tc .vmem S256x128 .bf16 := (sM.slice (slotR k) (fun _ => rfl)).squeeze S256x128 squeezes_S1x256x128_S256x128
abbrev rSlot (k : Fin 15) : Memref sig .tc .vmem S256x128 .bf16 := (rM.slice (slotR k) (fun _ => rfl)).squeeze S256x128 squeezes_S1x256x128_S256x128
abbrev wHalf (s : Fin 3) (h : Fin 2) : Memref sig .tc .vmem S2048x256 .f32 :=
  (wM.slice (halfR s h) (fun _ => rfl)).squeeze S2048x256 squeezes_S1x2048x256_S2048x256
abbrev wCols (h : Fin 2) (j : Fin 8) : Memref sig .tc .hbm S2048x256 .f32 := wH.slice (colsR h j) (fun _ => rfl)

/-! ## Element sets -/

theorem sSlot_set (k : Fin 15) : (sSlot k).view.set = (slotR k).set := (Memref.set_view_squeeze _ _).trans (View.set_slice_whole _ _)
theorem rSlot_set (k : Fin 15) : (rSlot k).view.set = (slotR k).set := (Memref.set_view_squeeze _ _).trans (View.set_slice_whole _ _)
theorem wHalf_set (s : Fin 3) (h : Fin 2) : (wHalf s h).view.set = (halfR s h).set := (Memref.set_view_squeeze _ _).trans (View.set_slice_whole _ _)
theorem wCols_set (h : Fin 2) (j : Fin 8) : (wCols h j).view.set = (colsR h j).set := View.set_slice_whole _ _

theorem mem_slot {k : Fin 15} {i : S15x256x128.Idx} : i ∈ (slotR k).set ↔ (i 0).val = k.val := by
  rw [Rect.mem_set_unit]
  constructor
  · intro h; have := h 0; simp at this; omega
  · intro h a
    have := (i a).isLt
    fin_cases a <;> simp at * <;> omega
theorem mem_half {s : Fin 3} {h : Fin 2} {i : S3x4096x256.Idx} : i ∈ (halfR s h).set ↔ (i 0).val = s.val ∧ (i 1).val / 2048 = h.val := by
  rw [Rect.mem_set_unit]
  constructor
  · intro H
    have h0 := H 0; have h1 := H 1
    simp at h0 h1
    exact ⟨by omega, by omega⟩
  · intro H a
    have := (i a).isLt
    fin_cases a <;> simp at * <;> omega
theorem mem_tile {s : Fin 3} {i : S3x4096x256.Idx} : i ∈ (tileR s).set ↔ (i 0).val = s.val := by
  rw [Rect.mem_set_unit]
  constructor
  · intro h; have := h 0; simp at this; omega
  · intro h a
    have := (i a).isLt
    fin_cases a <;> simp at * <;> omega
theorem mem_rows {c : Dev nD} {i : S4096x128.Idx} : i ∈ (rowsR c).set ↔ (i 0).val / 256 = c.val := by
  rw [Rect.mem_set_unit]
  constructor
  · intro h; have := h 0; simp at this; omega
  · intro h a
    have := (i a).isLt
    fin_cases a <;> simp at * <;> omega

/-- The fifteen slots are the whole buffer, and disjoint. -/
theorem slots_cover : (Finset.univ : Finset S15x256x128.Idx) = Finset.univ.biUnion fun k => (slotR k).set := by
  ext i; simp only [Finset.mem_univ, Finset.mem_biUnion, true_and, true_iff]; exact ⟨i 0, mem_slot.mpr rfl⟩
theorem slots_disj {k k' : Fin 15} (h : k ≠ k') : Disjoint (slotR k).set (slotR k').set :=
  Finset.disjoint_left.mpr fun i hi hi' => h (Fin.ext ((mem_slot.mp hi).symm.trans (mem_slot.mp hi')))
/-- The six halves are the whole weight buffer, and disjoint; the two halves of one slot are the slot. -/
theorem halves_cover : (Finset.univ : Finset S3x4096x256.Idx) = Finset.univ.biUnion fun p : Fin 3 × Fin 2 => (halfR p.1 p.2).set := by
  ext i; simp only [Finset.mem_univ, Finset.mem_biUnion, true_and, true_iff]
  have h1 : (i 1).val < 4096 := (i 1).isLt
  exact ⟨(i 0, ⟨(i 1).val / 2048, by omega⟩), mem_half.mpr ⟨rfl, rfl⟩⟩
theorem halves_disj {p p' : Fin 3 × Fin 2} (h : p ≠ p') : Disjoint (halfR p.1 p.2).set (halfR p'.1 p'.2).set :=
  Finset.disjoint_left.mpr fun i hi hi' => h (Prod.ext (Fin.ext ((mem_half.mp hi).1.symm.trans (mem_half.mp hi').1))
    (Fin.ext ((mem_half.mp hi).2.symm.trans (mem_half.mp hi').2)))
theorem tile_halves (s : Fin 3) : (tileR s).set = (halfR s 0).set ∪ (halfR s 1).set := by
  ext i
  rw [Finset.mem_union, mem_tile, mem_half, mem_half]
  have h1 : (i 1).val < 4096 := (i 1).isLt
  constructor
  · intro h
    rcases Nat.lt_or_ge (i 1).val 2048 with hl | hl
    · exact .inl ⟨h, by show _ = 0; omega⟩
    · exact .inr ⟨h, by show _ = 1; omega⟩
  · rintro (h | h) <;> exact h.1
/-- The sixteen row blocks are the whole output, and disjoint. -/
theorem rows_cover : (Finset.univ : Finset S4096x128.Idx) = Finset.univ.biUnion fun c : Dev nD => (rowsR c).set := by
  ext i; simp only [Finset.mem_univ, Finset.mem_biUnion, true_and, true_iff]
  have h1 : (i 0).val < 4096 := (i 0).isLt
  exact ⟨⟨(i 0).val / 256, by show _ < 16; omega⟩, mem_rows.mpr rfl⟩
theorem rows_disj {c c' : Dev nD} (h : c ≠ c') : Disjoint (rowsR c).set (rowsR c').set :=
  Finset.disjoint_left.mpr fun i hi hi' => h (Fin.ext ((mem_rows.mp hi).symm.trans (mem_rows.mp hi')))

/-! ## What a write leaves, known by what is read back -/

/-- Elements written through a view hold what any contents do that read, through the view, as the written vector. -/
theorem write_eq_of_read {sp : Space} {s : Shape} {e : EltTy} (v : View sig .tc sp s e) (f g : v.ty.Contents (Elt F)) (w : s.Idx → Elt F e)
    (h : v.read (Elt F) g = w) : ∀ i ∈ v.set, v.write (Elt F) f w Finset.univ i = g i := by
  intro i hi
  obtain ⟨x, -, rfl⟩ := Finset.mem_map.mp hi
  rw [View.write_emb_of_mem _ _ (Finset.mem_univ x), ← h, View.read_apply, cast_cast, cast_eq]

/-! ## The functions -/

section Fns
variable [FloatOps F] (m : (ℓ : Loc nD τ sig) → Buf (Elt F) ℓ)

/-- Device `c`'s rows of `x`, and its copy of the weights. -/
def xOf (c : Dev nD) : Vec F S256x4096 .f32 := m ((c : Thread nD τ).loc main_arg0)
def wOf (c : Dev nD) : Vec F S4096x2048 .f32 := m ((c : Thread nD τ).loc main_arg1)

set_option backward.proofsInPublic true in
/-- Column tile `j` of the weights, as a load of a slot of the weight buffer yields it. -/
def tileV (c : Dev nD) (j : Fin 8) : Vec F S1x4096x256 .f32 := fun i =>
  wOf m c (fun | 0 => i 1 | 1 => ⟨256 * j.val + (i 2).val, by have h : (i 2).val < 256 := (i 2).isLt; show _ < 2048; omega⟩)
set_option backward.proofsInPublic true in
/-- The 128 columns of the weights that device `q` owns the result of, as a load of half a slot yields them. -/
def colsV (c q : Dev nD) : Vec F S1x4096x128 .f32 := fun i =>
  wOf m c (fun | 0 => i 1 | 1 => ⟨128 * q.val + (i 2).val, by have h : (i 2).val < 128 := (i 2).isLt; have hq : q.val < 16 := q.isLt; show _ < 2048; omega⟩)

/-- The weight buffer with tile `j` in (any) one of its slots. -/
def wFn (c : Dev nD) (j : Fin 8) : (cc0_scratch1 : Ref sig .tc).ty.Contents (Elt F) := fun i =>
  tileV m c j (fun | 0 => ⟨0, Nat.one_pos⟩ | 1 => i 1 | 2 => i 2)

set_option backward.proofsInPublic true in
/-- The tile device `c`'s pass `jj` multiplies by. -/
def tileIx (c : Dev nD) (jj : ℕ) : Fin 8 := ⟨tileOf c jj, Nat.mod_lt _ (by decide)⟩

set_option backward.proofsInPublic true in
/-- The block device `c` stores into send slot `ss`: half of a 256-column product for the first fourteen, a 128-column product for the last. -/
def blkV (c : Dev nD) (ss : Fin 15) : FVec F S1x256x128 .bf16 :=
  if ss.val = 14 then k0_pay25 (k0_pay24 (k0_pay1 (xOf m c)) (colsV m c (tgt c 14)))
  else if ss.val % 2 = 0 then k0_pay6 (k0_pay5 (k0_pay1 (xOf m c)) (tileV m c (tileIx c (ss.val / 2))))
  else k0_pay7 (k0_pay5 (k0_pay1 (xOf m c)) (tileV m c (tileIx c (ss.val / 2))))

/-- The block device `c` receives into slot `sl`: that which the device `sl + 1` places before it stored for it. -/
def landV (c : Dev nD) (sl : Fin 15) : FVec F S1x256x128 .bf16 := blkV m (peer c sl.rev) ((land (peer c sl.rev)).symm sl)

/-- What `c` sends from slot `ss` is what its target receives. -/
theorem landV_tgt (c : Dev nD) (ss : Fin 15) : landV m (tgt c ss) (land c ss) = blkV m c ss := by
  unfold landV tgt; rw [peer_rev, Equiv.symm_apply_apply]

/-- Fifteen blocks stacked. -/
def stack (B : Fin 15 → FVec F S1x256x128 .bf16) : S15x256x128.Idx → Elt F .bf16 := fun i =>
  B (i 0) (fun | 0 => ⟨0, Nat.one_pos⟩ | 1 => i 1 | 2 => i 2)
/-- The send buffer and the receive buffer, full. -/
def sFn (c : Dev nD) : (cc0_scratch2 : Ref sig .tc).ty.Contents (Elt F) := stack (blkV m c)
def rFn (c : Dev nD) : (cc0_scratch3 : Ref sig .tc).ty.Contents (Elt F) := stack (landV m c)

set_option backward.proofsInPublic true in
/-- The receive slot of device `c` the block from device `b` lands in. -/
def slotFrom (c b : Dev nD) : Fin 15 := ⟨(c.val + 15 - b.val) % 16 % 15, Nat.mod_lt _ (by decide)⟩
theorem slotFrom_peer (c : Dev nD) (sl : Fin 15) : slotFrom c (peer c sl.rev) = sl := by revert c sl; decide +kernel

/-- The rows of device `b` in `c`'s output: `c`'s own product, or the block received from `b`, widened. -/
def rowsV (c b : Dev nD) : FVec F S256x128 .f32 :=
  if b = c then k0_pay26 (k0_pay1 (xOf m c)) (colsV m c c) else k0_pay27 (landV m c (slotFrom c b))
theorem rowsV_own (c : Dev nD) : rowsV m c c = k0_pay26 (k0_pay1 (xOf m c)) (colsV m c c) := if_pos rfl
theorem rowsV_peer (c : Dev nD) (sl : Fin 15) : rowsV m c (peer c sl.rev) = k0_pay27 (landV m c sl) := by
  unfold rowsV; rw [if_neg (peer_ne c _), slotFrom_peer]

set_option backward.proofsInPublic true in
/-- The output of device `c`. -/
def oFn (c : Dev nD) : (cc0_stg0_0 : Ref sig .tc).ty.Contents (Elt F) := fun i =>
  rowsV m c ⟨(i 0).val / 256, by have h : (i 0).val < 4096 := (i 0).isLt; show _ < 16; omega⟩
    (fun | 0 => ⟨(i 0).val % 256, Nat.mod_lt _ (by decide)⟩ | 1 => i 1)

/-! ## What the boxes read -/

omit [FloatOps F] in
theorem stack_emb (B : Fin 15 → FVec F S1x256x128 .bf16) (k : Fin 15) (x : (slotR k).shape.Idx) : stack B ((slotR k).emb x) = B k x := by
  unfold stack
  have h0 : (slotR k).emb x 0 = k := Fin.ext (by rw [Rect.emb_apply]; have h : (x 0).val < 1 := (x 0).isLt; simp; omega)
  rw [h0]
  congr 1
  funext a
  have h : (x 0).val < 1 := (x 0).isLt
  fin_cases a <;> apply Fin.ext <;> simp <;> omega

/-- A load of a slot of the send or receive buffer reads its block; so does its squeezed slice, shape-cast. -/
theorem load_s (c : Dev nD) (k : Fin 15) : sM.view.readAt (Elt F) (slotR k).toLoadRect (sFn m c) = blkV m c k := funext fun x => stack_emb (blkV m c) k x
theorem load_r (c : Dev nD) (k : Fin 15) : rM.view.readAt (Elt F) (slotR k).toLoadRect (rFn m c) = landV m c k := funext fun x => stack_emb (landV m c) k x
theorem access_s (c : Dev nD) (k : Fin 15) : (sM.access (slotR k)).read (Elt F) (sFn m c) = blkV m c k := funext fun x => stack_emb (blkV m c) k x
theorem read_s (c : Dev nD) (k : Fin 15) : (sSlot k).view.read (Elt F) (sFn m c) = shapeCast S256x128 (blkV m c k) shapeCasts_S1x256x128_S256x128 :=
  (Memref.read_squeeze_slice sM (slotR k) (fun _ => rfl) squeezes_S1x256x128_S256x128 shapeCasts_S1x256x128_S256x128 _).trans (by rw [load_s])
theorem read_r (c : Dev nD) (k : Fin 15) : (rSlot k).view.read (Elt F) (rFn m c) = shapeCast S256x128 (landV m c k) shapeCasts_S1x256x128_S256x128 :=
  (Memref.read_squeeze_slice rM (slotR k) (fun _ => rfl) squeezes_S1x256x128_S256x128 shapeCasts_S1x256x128_S256x128 _).trans (by rw [load_r])
/-- What `c`'s send slot reads is what the target's receive slot is to read. -/
theorem read_sent (c : Dev nD) (ss : Fin 15) :
    (rSlot (land c ss)).view.read (Elt F) (rFn m (tgt c ss)) = (sSlot ss).view.read (Elt F) (sFn m c) := by rw [read_s, read_r, landV_tgt]

/-- A load of a slot of the weight buffer reads the tile it holds. -/
theorem load_w (c : Dev nD) (s : Fin 3) (j : Fin 8) : wM.view.readAt (Elt F) (tileR s).toLoadRect (wFn m c j) = tileV m c j := by
  funext x
  show wFn m c j ((tileR s).emb x) = _
  unfold wFn
  congr 1
  funext a
  have h : (x 0).val < 1 := (x 0).isLt
  fin_cases a <;> apply Fin.ext <;> simp <;> omega

/-- A load of 128 columns of the slot holding the last tile reads the columns of the device that owns them. -/
theorem load_w_half (c q : Dev nD) (j : Fin 8) (o : ℕ) (off : Fin 3 → ℕ) (hoff : off = ![1, 0, o]) (ho : 256 * j.val + o = 128 * q.val)
    (inb : ∀ a, off a + S1x4096x128.size a ≤ S3x4096x256.size a) :
    wM.view.readAt (Elt F) (Rect.unit (s := S3x4096x256) off S1x4096x128.size inb).toLoadRect (wFn m c j) = colsV m c q := by
  subst hoff
  funext x
  show wFn m c j ((Rect.unit (s := S3x4096x256) ![1, 0, o] S1x4096x128.size inb).emb x) = _
  unfold wFn tileV colsV
  congr 1
  funext a
  fin_cases a
  · apply Fin.ext; simp
  · apply Fin.ext; simp; omega

/-- Half a tile of the weights is what the matching half of a slot of the weight buffer reads, when it holds that tile. -/
theorem read_half (c : Dev nD) (s : Fin 3) (h : Fin 2) (j : Fin 8) :
    (wHalf s h).view.read (Elt F) (wFn m c j) = (wCols h j).view.read (Elt F) (wOf m c) := by
  funext x
  show wFn m c j ((halfR s h).emb (Shape.reshapeEquiv _ x)) = wOf m c ((colsR h j).emb x)
  rw [Shape.reshapeEquiv_cons_one]
  unfold wFn tileV
  congr 1
  funext a
  fin_cases a <;> apply Fin.ext <;> simp
  · rfl
  · rfl

/-- The device's rows of `x`, in the argument and in the buffer they are copied to. -/
theorem read_xx (c : Dev nD) : xM.view.read (Elt F) (xOf m c) = xH.view.read (Elt F) (xOf m c) :=
  (View.read_whole cc0_scratch0 (xOf m c)).trans (View.read_whole main_arg0 (xOf m c)).symm

/-- A box of the output's rows reads the block of those rows. -/
theorem load_o (c b : Dev nD) : (oM.access (rowsR b)).read (Elt F) (oFn m c) = rowsV m c b := by
  funext x
  show oFn m c ((rowsR b).emb x) = _
  unfold oFn
  have h : (x 0).val < 256 := (x 0).isLt
  have h0 : ((rowsR b).emb x 0).val = 256 * b.val + (x 0).val := by rw [Rect.emb_apply]; simp
  congr 1
  · congr 1; rw [h0]; omega
  · funext a
    fin_cases a <;> apply Fin.ext <;> simp
    omega

end Fns

end Cert.Relay
-- ==== Proof.Protocol.lean ====
/-
# Protocol: the semaphore cells, what each hands over, and in which order they are waited for

Three kinds of cell cross devices. The BARRIER cell of a device gets one unit from every other device, and each unit
hands over the slot of the sender's receive buffer this device will write. A RECEIVE cell gets one block's credit with
the block landed in its slot; a SEND cell the same credit with the slot of the send buffer back. Everything else — the
copy of `x` and the copies of the weight tiles — is a device's own business.
-/
module

public import proofs.«01_k».proof.Proof.Contents
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.ShareLeaves
public import Idealize.ShloMosaic.Lib.Tactic

@[expose] public section

noncomputable section

namespace Cert.Relay

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The resource algebra: the pipeline's rounds, the fifteen-duty rounds of this kernel, the local copies' counters -/

abbrev UB : Type := URounds (GSem nD τ sig) (Fin 15)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

abbrev 𝒱₀ : Variants := Variants.none

/-! ## Semaphores and cells -/

abbrev barS : Sem sig := (SemArray.scalar (sig.barrier 0 rfl) : Sems sig S_).sem
set_option backward.proofsInPublic true in
def xSem : DmaSem sig := ⟨1, by decide⟩
set_option backward.proofsInPublic true in
def wSem (s : Fin 3) (h : Fin 2) : DmaSem sig := ⟨2 + 2 * s.val + h.val, by revert s h; decide⟩
set_option backward.proofsInPublic true in
def sSem (k : Fin 15) : DmaSem sig := ⟨8 + k.val, by revert k; decide⟩
set_option backward.proofsInPublic true in
def rSem (k : Fin 15) : DmaSem sig := ⟨23 + k.val, by revert k; decide⟩

abbrev barCell (c : Dev nD) : GSem nD τ sig := ((c : Thread nD τ), .reg barS)
abbrev sendCell (c : Dev nD) (k : Fin 15) : GSem nD τ sig := ((c : Thread nD τ), .dma (sSem k))
abbrev recvCell (c : Dev nD) (k : Fin 15) : GSem nD τ sig := ((c : Thread nD τ), .dma (rSem k))

/-- What a semaphore is to the protocol. -/
inductive Role where
  | other
  | bar
  | send (k : Fin 15)
  | recv (k : Fin 15)
deriving DecidableEq

def roleDma : Fin 38 → Role := fun s =>
  if h : 23 ≤ s.val then .recv ⟨s.val - 23, by omega⟩ else if h' : 8 ≤ s.val then .send ⟨s.val - 8, by omega⟩ else .other
def role : SemLoc sig → Role
  | .reg s => if s = barS then .bar else .other
  | .dma s => roleDma s

theorem role_bar : role (.reg barS) = .bar := by decide
theorem role_send (k : Fin 15) : role (.dma (sSem k)) = .send k := by revert k; decide
theorem role_recv (k : Fin 15) : role (.dma (rSem k)) = .recv k := by revert k; decide
theorem role_x : role (.dma xSem) = .other := by decide
theorem role_w (s : Fin 3) (h : Fin 2) : role (.dma (wSem s h)) = .other := by revert s h; decide

/-- The kernel's indexing of its semaphore arrays. -/
theorem x_sem : cc0_scratch4.sem = xSem := by decide
theorem w_sem (s : Fin 3) (h : Fin 2) (off : Fin 2 → ℕ) (hoff : off = ![s.val, h.val]) (inb : ∀ a, off a + S1x1.size a ≤ S3x2.size a) :
    ((cc0_scratch5.slice (Rect.unit (s := S3x2) off S1x1.size inb)).squeeze S_ squeezes_S1x1_S_).sem = wSem s h := by
  subst hoff; revert s h; decide
theorem s_sem (k : Fin 15) (off : Fin 1 → ℕ) (hoff : off = ![k.val]) (inb : ∀ a, off a + S1.size a ≤ S15.size a) :
    ((cc0_scratch6.slice (Rect.unit (s := S15) off S1.size inb)).squeeze S_ squeezes_S1_S_).sem = sSem k := by
  subst hoff; revert k; decide
theorem r_sem (k : Fin 15) (off : Fin 1 → ℕ) (hoff : off = ![k.val]) (inb : ∀ a, off a + S1.size a ≤ S15.size a) :
    ((cc0_scratch7.slice (Rect.unit (s := S15) off S1.size inb)).squeeze S_ squeezes_S1_S_).sem = rSem k := by
  subst hoff; revert k; decide

/-- A block's credit, at whichever slot. -/
abbrev N : ℕ := (rSlot 0).view.dmaCredit
theorem N_pos : 0 < N := View.dmaCredit_pos _ (by decide)
theorem credit_r (k : Fin 15) : (rSlot k).view.dmaCredit = N := rfl
theorem credit_s (k : Fin 15) : (sSlot k).view.dmaCredit = N := rfl

/-! ## Points-tos -/

abbrev sPts (c : Dev nD) (k : Fin 15) (f : Buf (Elt F) ((sSlot k).view.loc (c : Thread nD τ))) : sProp 𝕄 :=
  (sSlot k).view.loc (c : Thread nD τ) ↦[(sSlot k).view.set]{fullShare} f
abbrev rPts (c : Dev nD) (k : Fin 15) (f : Buf (Elt F) ((rSlot k).view.loc (c : Thread nD τ))) : sProp 𝕄 :=
  (rSlot k).view.loc (c : Thread nD τ) ↦[(rSlot k).view.set]{fullShare} f
abbrev wPts (c : Dev nD) (s : Fin 3) (h : Fin 2) (f : Buf (Elt F) ((wHalf s h).view.loc (c : Thread nD τ))) : sProp 𝕄 :=
  (wHalf s h).view.loc (c : Thread nD τ) ↦[(wHalf s h).view.set]{fullShare} f
abbrev oPts (c b : Dev nD) (f : Buf (Elt F) ((oM.access (rowsR b)).loc (c : Thread nD τ))) : sProp 𝕄 :=
  (oM.access (rowsR b)).loc (c : Thread nD τ) ↦[(rowsR b).set]{fullShare} f

/-! ## The schedule -/

section Sched
variable [FloatOps F] (m : (ℓ : Loc nD τ sig) → Buf (Elt F) ℓ)

/-- One round. A barrier cell has fifteen duties of one unit, duty `k` paid by the device `k + 1` places on and handing over
    that device's receive slot `k`; a send cell has one duty handing the sent slot back; a receive cell one handing over the
    landed block. -/
def rd : Rounds.Schedule (GSem nD τ sig) (Fin 15) 𝕄 where
  duties g r := if r = 0 ∧ g.1.2 = .tc then (match role g.2 with | .bar => Finset.univ | .send _ => {0} | .recv _ => {0} | .other => ∅) else ∅
  unitless _ := False
  amount g _ _ := match role g.2 with | .bar => 1 | .send _ => N | .recv _ => N | .other => 1
  payload g _ d := match role g.2 with
    | .bar => iprop(∃ f, rPts (peer g.1.1 d) d f)
    | .send k => sPts g.1.1 k (sFn m g.1.1)
    | .recv k => rPts g.1.1 k (rFn m g.1.1)
    | .other => iprop(emp)
  amount_pos g _ _ _ := by
    show 0 < (match role g.2 with | .bar => 1 | .send _ => N | .recv _ => N | .other => 1)
    split
    · exact Nat.one_pos
    · exact N_pos
    · exact N_pos
    · exact Nat.one_pos

instance rd_payload_storable (g : GSem nD τ sig) (r : ℕ) (d : Fin 15) :
    BI.Storable (upEmb : UEmb _ 𝕄) ((rd (F := F) m).payload g r d) := by
  show BI.Storable upEmb (match role g.2 with
    | .bar => iprop(∃ f, rPts (peer g.1.1 d) d f)
    | .send k => sPts g.1.1 k (sFn m g.1.1)
    | .recv k => rPts g.1.1 k (rFn m g.1.1)
    | .other => iprop(emp))
  split <;> infer_instance

variable (c : Dev nD) (k d : Fin 15)

theorem duties_bar : (rd (F := F) m).duties (barCell c) 0 = Finset.univ := by
  dsimp only [rd]; rw [if_pos ⟨rfl, rfl⟩, role_bar]
theorem duties_send : (rd (F := F) m).duties (sendCell c k) 0 = {0} := by dsimp only [rd]; rw [if_pos ⟨rfl, rfl⟩, role_send]
theorem duties_recv : (rd (F := F) m).duties (recvCell c k) 0 = {0} := by dsimp only [rd]; rw [if_pos ⟨rfl, rfl⟩, role_recv]
theorem duties_later (g : GSem nD τ sig) : ∀ r, 1 ≤ r → (rd (F := F) m).duties g r = ∅ :=
  fun r hr => by dsimp only [rd]; rw [if_neg fun h => by omega]
theorem amount_bar : (rd (F := F) m).amount (barCell c) 0 d = 1 := by dsimp only [rd]; rw [role_bar]
theorem amount_send : (rd (F := F) m).amount (sendCell c k) 0 d = N := by dsimp only [rd]; rw [role_send]
theorem amount_recv : (rd (F := F) m).amount (recvCell c k) 0 d = N := by dsimp only [rd]; rw [role_recv]
theorem expect_bar : (rd (F := F) m).expect (barCell c) 0 = 15 := by
  unfold Schedule.expect Schedule.amountOf
  rw [duties_bar, Finset.sum_congr rfl fun d _ => amount_bar m c d]; rfl
theorem expect_send : (rd (F := F) m).expect (sendCell c k) 0 = N := by
  unfold Schedule.expect Schedule.amountOf; rw [duties_send, Finset.sum_singleton, amount_send]
theorem expect_recv : (rd (F := F) m).expect (recvCell c k) 0 = N := by
  unfold Schedule.expect Schedule.amountOf; rw [duties_recv, Finset.sum_singleton, amount_recv]
theorem payload_bar : (rd (F := F) m).payload (barCell c) 0 d = iprop(∃ f, rPts (peer c d) d f) := by dsimp only [rd]; rw [role_bar]
theorem payload_send : (rd (F := F) m).payload (sendCell c k) 0 d = sPts c k (sFn m c) := by dsimp only [rd]; rw [role_send]
theorem payload_recv : (rd (F := F) m).payload (recvCell c k) 0 d = rPts c k (rFn m c) := by dsimp only [rd]; rw [role_recv]
/-- What a whole round of each cell hands over. -/
theorem rest_bar : bigSep ((rd (F := F) m).duties (barCell c) 0 \ ∅) (fun d => (rd (F := F) m).payload (barCell c) 0 d)
    = bigSep Finset.univ fun d : Fin 15 => iprop(∃ f, rPts (F := F) (peer c d) d f) := by
  rw [Finset.sdiff_empty, duties_bar]; exact bigSep_congr fun d _ => payload_bar m c d
theorem rest_send : bigSep ((rd (F := F) m).duties (sendCell c k) 0 \ ∅) (fun d => (rd (F := F) m).payload (sendCell c k) 0 d) = sPts c k (sFn m c) := by
  rw [Finset.sdiff_empty, duties_send, bigSep_singleton, payload_send]
theorem rest_recv : bigSep ((rd (F := F) m).duties (recvCell c k) 0 \ ∅) (fun d => (rd (F := F) m).payload (recvCell c k) 0 d) = rPts c k (rFn m c) := by
  rw [Finset.sdiff_empty, duties_recv, bigSep_singleton, payload_recv]

end Sched

/-! ## Progress through fifteen of a kind -/

/-- Fifteen resources, those in `S` already turned from `B` to `A`. -/
def prog (S : Finset (Fin 15)) (A B : Fin 15 → sProp 𝕄) : sProp 𝕄 := bigSep Finset.univ fun k => if k ∈ S then A k else B k
theorem prog_none (A B : Fin 15 → sProp 𝕄) : prog ∅ A B = bigSep Finset.univ B := bigSep_congr fun k _ => if_neg (Finset.notMem_empty k)
theorem prog_all {S : Finset (Fin 15)} (hS : S = Finset.univ) (A B : Fin 15 → sProp 𝕄) : prog S A B = bigSep Finset.univ A :=
  bigSep_congr fun k _ => if_pos (hS ▸ Finset.mem_univ k)
/-- Turning one. -/
theorem prog_step {S : Finset (Fin 15)} (A B : Fin 15 → sProp 𝕄) (k : Fin 15) (hk : k ∉ S) :
    prog S A B ⊢ iprop(B k ∗ (A k -∗ prog (insert k S) A B)) := by
  unfold prog
  have h := bigSep_univ_update (Φ := fun j => if j ∈ S then A j else B j) (Ψ := fun j => if j ∈ insert k S then A j else B j) k fun j hj => by
    simp only [Finset.mem_insert, hj, false_or]
  simpa only [if_neg hk, if_pos (Finset.mem_insert_self k S)] using h

/-! ## What is owed, and the levels -/

/-- The units and credits a device still owes: to each device it has not signalled a unit, to each it has not sent to a
    block's credit. -/
def oBar (c : Dev nD) (S : Finset (Fin 15)) : CellTallies nD τ sig Unit := ∑ j ∈ Sᶜ, tallyAt (barCell (peer c j)) () 1
def oSend (c : Dev nD) (S : Finset (Fin 15)) : CellTallies nD τ sig Unit := ∑ k ∈ Sᶜ, tallyAt (recvCell (tgt c k) (land c k)) () N
def O₀ (c : Dev nD) : CellTallies nD τ sig Unit := oSend c ∅ + oBar c ∅

theorem peel {M : Type} [AddCommMonoid M] (f : Fin 15 → M) {S : Finset (Fin 15)} {k : Fin 15} (hk : k ∉ S) :
    ∑ j ∈ Sᶜ, f j = ∑ j ∈ (insert k S)ᶜ, f j + f k := by
  rw [Finset.compl_insert, Finset.sum_erase_add _ _ (Finset.mem_compl.mpr hk)]
theorem oBar_peel (c : Dev nD) {S : Finset (Fin 15)} {k : Fin 15} (hk : k ∉ S) : oBar c S = oBar c (insert k S) + tallyAt (barCell (peer c k)) () 1 := peel _ hk
theorem oSend_peel (c : Dev nD) {S : Finset (Fin 15)} {k : Fin 15} (hk : k ∉ S) :
    oSend c S = oSend c (insert k S) + tallyAt (recvCell (tgt c k) (land c k)) () N := peel _ hk
theorem oBar_all (c : Dev nD) {S : Finset (Fin 15)} (hS : S = Finset.univ) : oBar c S = 0 := by subst hS; unfold oBar; rw [Finset.compl_univ, Finset.sum_empty]
theorem oSend_all (c : Dev nD) {S : Finset (Fin 15)} (hS : S = Finset.univ) : oSend c S = 0 := by subst hS; unfold oSend; rw [Finset.compl_univ, Finset.sum_empty]

theorem sum_tally_pos {n : ℕ} {S : Finset (Fin 15)} {cell : Fin 15 → GSem nD τ sig} {g : GSem nD τ sig} {u : Unit}
    (h : 0 < (∑ j ∈ S, (tallyAt (cell j) () n : CellTallies nD τ sig Unit)) g u) : ∃ j, g = cell j := by
  by_contra hn
  rw [not_exists] at hn
  rw [Finset.sum_apply, Finsupp.finset_sum_apply, Finset.sum_eq_zero fun j _ => by rw [tallyAt_apply, if_neg fun h' => hn j h'.1]] at h
  exact Nat.lt_irrefl 0 h
theorem oSend_pos {c : Dev nD} {S : Finset (Fin 15)} {g : GSem nD τ sig} {u : Unit} (h : 0 < oSend c S g u) : ∃ d k, g = recvCell d k :=
  let ⟨j, hj⟩ := sum_tally_pos h; ⟨_, _, hj⟩
theorem O₀_pos {c : Dev nD} {g : GSem nD τ sig} {u : Unit} (h : 0 < O₀ c g u) : (∃ d, g = barCell d) ∨ ∃ d k, g = recvCell d k := by
  unfold O₀ at h
  rw [Pi.add_apply, Finsupp.add_apply] at h
  rcases Nat.eq_zero_or_pos (oSend c ∅ g u) with hz | hp
  · rw [hz, Nat.zero_add] at h
    exact .inl (let ⟨j, hj⟩ := sum_tally_pos h; ⟨_, hj⟩)
  · exact .inr (oSend_pos hp)

def L (g : GSem nD τ sig) : Finset Unit := if g.1.2 = .tc then {()} else ∅
/-- Receive cells are above barrier cells, barrier cells above everything a device waits for on its own. -/
def lv (g : GSem nD τ sig) (_ : Unit) : ℕ := match role g.2 with | .bar => 1 | .recv _ => 2 | .send _ => 0 | .other => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [role_bar]
theorem lv_recv (c : Dev nD) (k : Fin 15) (u : Unit) : lv (recvCell c k) u = 2 := by unfold lv; rw [role_recv]

/-- A device may wait for a cell below everything it owes. -/
theorem mayWait_below (c : Dev nD) (sm : SemLoc sig) (O : CellTallies nD τ sig Unit)
    (h : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

/-- Owing only blocks, a device may wait for its barrier and for its own copies. -/
theorem mayWait_send (c : Dev nD) (sm : SemLoc sig) (hsm : lv ((c : Thread nD τ), sm) () < 2) (S : Finset (Fin 15)) :
    (levAts L lv : sProp 𝕄) ⊢ MayWait (c : Thread nD τ) sm () (oSend c S) :=
  mayWait_below c sm _ fun g u hg => by
    obtain ⟨d, k, rfl⟩ := oSend_pos hg
    exact ⟨rfl, by rw [lv_recv]; exact hsm⟩
/-- Owing everything or nothing, it may wait for the write-back of its result. -/
theorem mayWait_stage (c : Dev nD) (q : DmaSem sig) (hq : role (.dma q) = .other) (O : CellTallies nD τ sig Unit) (hO : O = O₀ c ∨ O = 0) :
    (levAts L lv : sProp 𝕄) ⊢ MayWait (c : Thread nD τ) (.dma q) () O := by
  have hz : lv ((c : Thread nD τ), .dma q) () = 0 := by unfold lv; rw [hq]
  rcases hO with rfl | rfl
  · refine mayWait_below c _ _ fun g u hg => ?_
    rcases O₀_pos hg with ⟨d, rfl⟩ | ⟨d, k, rfl⟩
    · exact ⟨rfl, by rw [lv_bar, hz]; decide⟩
    · exact ⟨rfl, by rw [lv_recv, hz]; decide⟩
  · rw [MayWait_zero]; iintro -; iempintro

end Cert.Relay
-- ==== Proof.Steps.lean ====
/-
# Steps: one rule per operation of the kernel, over the state the protocol bundles

Every rule is stated once for all devices, slots, tiles and continuations; the operation's memrefs, semaphores and devices
are variables with an equation each, so that it applies whatever way the kernel computed them.
-/
module

public import proofs.«01_k».proof.Proof.Protocol

@[expose] public section

noncomputable section

namespace Cert.Relay

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells' invariants -/

/-- The cells, by device and kind. -/
abbrev CIx : Type := Unit ⊕ (Fin 15 ⊕ Fin 15)
def csem : CIx → SemLoc sig
  | .inl _ => .reg barS
  | .inr (.inl k) => .dma (sSem k)
  | .inr (.inr k) => .dma (rSem k)
abbrev kcell (ck : Dev nD × CIx) : GSem nD τ sig := ((ck.1 : Thread nD τ), csem ck.2)

/-- Every cell's invariant, and that it has reached its round. -/
def world (K : Dev nD × CIx → ℕ) : sProp 𝕄 :=
  iprop((bigSep Finset.univ fun ck : Dev nD × CIx => cellInv ER (rd m) (K ck) (kcell ck))
    ∗ bigSep Finset.univ fun ck : Dev nD × CIx => reached ER (kcell ck) 0)
instance world_persistent (K : Dev nD × CIx → ℕ) : BI.Persistent (world m K) := by unfold world; infer_instance

theorem inv_at (K : Dev nD × CIx → ℕ) (ck : Dev nD × CIx) : world m K ⊢ cellInv ER (rd m) (K ck) (kcell ck) := by
  unfold world
  exact sep_elim_left.trans (bigSep_elim (Φ := fun ck : Dev nD × CIx => (cellInv ER (rd m) (K ck) (kcell ck) : sProp 𝕄)) (Finset.mem_univ ck))
theorem reached_at (K : Dev nD × CIx → ℕ) (ck : Dev nD × CIx) : world m K ⊢ (reached ER (kcell ck) 0 : sProp 𝕄) := by
  unfold world
  exact sep_elim_right.trans (bigSep_elim (Φ := fun ck : Dev nD × CIx => (reached ER (kcell ck) 0 : sProp 𝕄)) (Finset.mem_univ ck))

/-- What a device owes, whatever it has waited for. -/
def Owe (c : Dev nD) (O : CellTallies nD τ sig Unit) : sProp 𝕄 := iprop(∃ W, owes (c : Thread nD τ) O W)

section Rules
variable (K : Dev nD × CIx → ℕ) (c : Dev nD)

/-! ## The entry handshake -/

/-- What the signal to the device `j + 1` places on takes: its duty token, and the own receive slot that device will write. -/
def sigRes (j : Fin 15) : sProp 𝕄 := iprop(dutyTok ER (barCell (peer c j)) 0 j.rev ∗ ∃ f, rPts c j.rev f)
def none15 (_ : Fin 15) : sProp 𝕄 := iprop(emp)

/-- A signal. -/
theorem signal_step {α : Type} {Q : α → sProp 𝕄} {kk : PUnit → Prog (TpuEff nD τ sig (Elt F) Λ₀ .tc) α}
    (j : Fin 15) {S T : Finset (Fin 15)} (hj : j ∉ S) {n : Dev nD} (hn : n = peer c j) {sm : Sem sig} (hsm : sm = barS)
    {u : ℕ} (hu : u = 1) :
    iprop(world m K ∗ Owe c (oSend c T + oBar c S) ∗ prog S none15 (sigRes c))
      ⊢ iprop(((Owe c (oSend c T + oBar c (insert j S)) ∗ prog (insert j S) none15 (sigRes c))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) sm u) kk) Q) := by
  subst hn hsm hu
  have hO : oSend c T + oBar c S = oSend c T + oBar c (insert j S) + tallyAt (barCell (peer c j)) () 1 := by rw [oBar_peel c hj, add_assoc]
  unfold Owe
  iintro ⟨#Hw, ⟨%W, HO⟩, HS⟩ Hk
  ihave HS := (prog_step none15 (sigRes c) j hj) $$ HS
  icases HS with ⟨HS, Hclose⟩
  unfold sigRes
  icases HS with ⟨Htok, Hr⟩
  iapply (Rounds.wp_signal 𝒱₀ ER (rd m) (c : Thread nD τ) none (dst := (peer c j : Thread nD τ)) (κ := K (peer c j, .inl ()))
      (d := j.rev) (r := 0) (by rw [duties_bar]; exact Finset.mem_univ _) (amount_bar m (peer c j) j.rev) () (oSend c T + oBar c (insert j S)) hO) $$ [HO Htok Hr]
  · isplitr; · iapply (inv_at m K (peer c j, .inl ())); iexact Hw
    isplitl [HO]; · iexact HO
    isplitl [Htok]; · iexact Htok
    isplitl [Hr]
    · rw [payload_bar, peer_rev]; iexact Hr
    · iapply (reached_at m K (peer c j, .inl ())); iexact Hw
  iintro HO
  iapply Hk
  isplitl [HO]; · iexists W; iexact HO
  iapply Hclose; unfold none15; iempintro

/-- Every receive slot `c` is to write, at whatever it holds. -/
def slots (ss : Fin 15) : sProp 𝕄 := iprop(∃ f, rPts (F := F) (tgt c ss) (land c ss) f)

/-- The wait for all fifteen units: the other devices' slots come with it, and the barrier cell is done. -/
theorem barrier_step {α : Type} {Q : α → sProp 𝕄} {kk : PUnit → Prog (TpuEff nD τ sig (Elt F) Λ₀ .tc) α}
    {T : Finset (Fin 15)} {sm : Sem sig} (hsm : sm = barS) {u : ℕ} (hu : u = 15) :
    iprop(world m K ∗ levAts L lv ∗ Owe c (oSend c T) ∗ cred (tallyAt (barCell c) () 15) ∗ atPos ER (barCell c) 0 ∅ 0)
      ⊢ iprop(((Owe c (oSend c T) ∗ semVal (barCell c) 0 ∗ bigSep Finset.univ (slots c))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait sm u) kk) Q) := by
  subst hsm hu
  unfold Owe
  iintro ⟨#Hw, #Hlev, ⟨%W, HO⟩, Hc, Hat⟩ Hk
  iapply (Rounds.wp_wait_rest_token 𝒱₀ ER (rd m) (c : Thread nD τ) none (κ := K (c, .inl ()))
      (wpE_semWait_eq 𝒱₀ (c : Thread nD τ) none Set.univ) (Set.mem_univ _) () (O := oSend c T) (W := W) (R := 0) (m := 0) (T := ∅)
      (by rw [expect_bar])) $$ [Hc HO Hat]
  · isplitr; · iapply (inv_at m K (c, .inl ())); iexact Hw
    isplitl [Hc]; · iexact Hc
    isplitl [HO]; · iexact HO
    isplitr; · iapply (mayWait_send c (.reg barS) (by rw [lv_bar]; decide) T); iexact Hlev
    iexact Hat
  iintro ⟨HO, Hat, -, Hpay⟩
  ihave Hp := (Entails.of_eq ((rest_bar m c).trans (bigSep_univ_equiv (land c) _))) $$ Hpay
  ihave #Hi := (inv_at m K (c, .inl ())) $$ Hw
  imod (Rounds.cell_close ER (rd m) (Set.mem_univ (K (c, .inl ()))) (fun h => h) (R := 0 + 1) (duties_later m (barCell c))) $$ [Hat] with Hz
  · isplitr; · iexact Hi
    iexact Hat
  iapply Hk
  isplitl [HO]; · iexists _; iexact HO
  isplitl [Hz]; · iexact Hz
  iexact Hp

/-! ## Copies on the device -/

abbrev Nx : ℕ := (xM : Memref sig .tc .vmem S256x4096 .f32).view.dmaCredit
abbrev Nw : ℕ := (wHalf 0 0).view.dmaCredit
theorem lv_x : lv ((c : Thread nD τ), .dma xSem) () = 0 := by unfold lv; rw [role_x]
theorem lv_w (s : Fin 3) (h : Fin 2) : lv ((c : Thread nD τ), .dma (wSem s h)) () = 0 := by unfold lv; rw [role_w]

/-- The six shares of the weights, one per half slot. -/
def wShare (s : Fin 3) (h : Fin 2) : PosShare TreeShare :=
  ShareLeaves.leaf 3 fullShare ⟨2 * s.val + h.val, by have := s.isLt; have := h.isLt; show _ < 2 ^ 3; omega⟩
abbrev wArg (s : Fin 3) (h : Fin 2) (I : Finset (Idx ((wH : Memref sig .tc .hbm S4096x2048 .f32).view.loc (c : Thread nD τ)))) : sProp 𝕄 :=
  (wH : Memref sig .tc .hbm S4096x2048 .f32).view.loc (c : Thread nD τ) ↦[I]{wShare s h} wOf m c

/-- Half a slot of the weight buffer that no copy is under way into, at whatever it holds; -/
def Wfree (s : Fin 3) (h : Fin 2) : sProp 𝕄 :=
  iprop((∃ f, wPts c s h f) ∗ semVal ((c : Thread nD τ), .dma (wSem s h)) 0 ∗ wArg m c s h Finset.univ)
/-- into which tile `j` is being copied; -/
def Wfly (s : Fin 3) (h : Fin 2) (j : Fin 8) : sProp 𝕄 :=
  iprop((∃ f, Transfers.Flight EC (c : Thread nD τ) (.dma (wSem s h)) () Nw
      iprop(wPts c s h ((wHalf s h).view.write (Elt F) f ((wCols h j).view.read (Elt F) (wOf m c)) Finset.univ)
        ∗ wArg m c s h (wCols h j).view.set))
    ∗ wArg m c s h (Finset.univ \ (wCols h j).view.set))
/-- holding tile `j`. -/
def Wgot (s : Fin 3) (h : Fin 2) (j : Fin 8) : sProp 𝕄 :=
  iprop(wPts c s h (wFn m c j) ∗ semVal ((c : Thread nD τ), .dma (wSem s h)) 0 ∗ wArg m c s h Finset.univ)
theorem Wgot_free (s : Fin 3) (h : Fin 2) (j : Fin 8) : Wgot m c s h j ⊢ Wfree m c s h := by
  unfold Wgot Wfree
  iintro ⟨Hp, H⟩
  isplitl [Hp]; · iexists _; iexact Hp
  iexact H

/-- Starting the copy of half a tile. -/
theorem copy_step {α : Type} {Q : α → sProp 𝕄} {kk : PUnit → Prog (TpuEff nD τ sig (Elt F) Λ₀ .tc) α}
    (s : Fin 3) (h : Fin 2) (j : Fin 8) {src : Memref sig .tc .hbm S2048x256 .f32} (hs : src = wCols h j)
    {dst : Memref sig .tc .vmem S2048x256 .f32} (hd : dst = wHalf s h) {sm : DmaSem sig} (hm : sm = wSem s h)
    {hsrc : src.view.WordExact} {hdst : dst.view.WordExact} {hsem : DmaTarget.Typed (nD := nD) (τ := τ) (p := .tc) .hbm (.dma sm) (.here dst)} :
    Wfree m c s h
      ⊢ iprop((Wfly m c s h j -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.here dst) (.dma sm) hsrc hdst hsem) kk) Q) := by
  subst hs hd hm
  unfold Wfree Wfly
  iintro ⟨⟨%f, Hd⟩, Hv, Hw⟩ Hk
  ihave Hw := (pointsTo_split_subset (Finset.subset_univ (wCols h j).view.set)).1 $$ Hw
  icases Hw with ⟨Hs, Hrest⟩
  iapply (Transfers.wp_dmaLocal EC 𝒱₀ (c : Thread nD τ) none (src := wCols h j) (dst := wHalf s h) (Sd := (wHalf s h).view.set) (fd := f) () Nw rfl
    (View.dmaCredit_pos _ (by decide)) (Finset.Subset.refl _)) $$ [Hs Hd Hv]
  · isplitl [Hs]; · iexact Hs
    isplitl [Hd] <;> iassumption
  iintro HF
  iapply Hk
  isplitl [HF]; · iexists f; iexact HF
  iexact Hrest

/-- Waiting for it. -/
theorem land_step {α : Type} {Q : α → sProp 𝕄} {kk : PUnit → Prog (TpuEff nD τ sig (Elt F) Λ₀ .tc) α}
    (s : Fin 3) (h : Fin 2) (j : Fin 8) {T : Finset (Fin 15)} {sm : DmaSem sig} (hm : sm = wSem s h)
    {sp : Space} {s' : Shape} {e' : EltTy} {srcw : Memref sig .tc sp s' e'} {dstw : Memref sig .tc .vmem S2048x256 .f32} (hd : dstw = wHalf s h)
    {hsrc : srcw.view.WordExact} {hdst : dstw.view.WordExact} :
    iprop(levAts L lv ∗ Owe c (oSend c T) ∗ Wfly m c s h j)
      ⊢ iprop(((Owe c (oSend c T) ∗ Wgot m c s h j) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm srcw dstw hsrc hdst) kk) Q) := by
  subst hd hm
  unfold Owe Wfly Wgot
  iintro ⟨#Hlev, ⟨%W, HO⟩, ⟨%f, HF⟩, Hrest⟩ Hk
  iapply (Transfers.wp_waitLocalO EC 𝒱₀ (c : Thread nD τ) none (srcw := srcw) (dstw := wHalf s h) (hsrc := hsrc) (hdst := hdst) () (N := Nw) rfl (O := oSend c T)) $$ [HF HO]
  · isplitl [HF]; · iexact HF
    isplitl [HO]; · iexact HO
    iapply (mayWait_send c (.dma (wSem s h)) (by rw [lv_w]; decide) T); iexact Hlev
  iintro ⟨⟨Hd, Hs⟩, Hv, HO⟩
  iapply Hk
  isplitl [HO]; · iexists _; iexact HO
  isplitl [Hd]
  · iapply (Entails.of_eq (pointsTo_congr (write_eq_of_read (wHalf s h).view f (wFn m c j) _ (read_half m c s h j)))); iexact Hd
  isplitl [Hv]; · iexact Hv
  iapply (pointsTo_split_subset (Finset.subset_univ (wCols h j).view.set)).2
  isplitl [Hs] <;> iassumption

/-- The device's rows of `x`, before the copy, during it, and after. -/
abbrev xPts (f : Buf (Elt F) ((xM : Memref sig .tc .vmem S256x4096 .f32).view.loc (c : Thread nD τ))) : sProp 𝕄 :=
  (xM : Memref sig .tc .vmem S256x4096 .f32).view.loc (c : Thread nD τ) ↦[(xM : Memref sig .tc .vmem S256x4096 .f32).view.set]{fullShare} f
abbrev xArg : sProp 𝕄 :=
  (xH : Memref sig .tc .hbm S256x4096 .f32).view.loc (c : Thread nD τ) ↦[(xH : Memref sig .tc .hbm S256x4096 .f32).view.set]{fullShare} xOf m c
def Xfree : sProp 𝕄 := iprop((∃ f, xPts c f) ∗ semVal ((c : Thread nD τ), .dma xSem) 0 ∗ xArg m c)
def Xfly : sProp 𝕄 :=
  iprop(∃ f, Transfers.Flight EC (c : Thread nD τ) (.dma xSem) () Nx
    iprop(xPts c ((xM : Memref sig .tc .vmem S256x4096 .f32).view.write (Elt F) f
        ((xH : Memref sig .tc .hbm S256x4096 .f32).view.read (Elt F) (xOf m c)) Finset.univ) ∗ xArg m c))
def Xgot : sProp 𝕄 := iprop(xPts c (xOf m c) ∗ semVal ((c : Thread nD τ), .dma xSem) 0 ∗ xArg m c)

theorem xcopy_step {α : Type} {Q : α → sProp 𝕄} {kk : PUnit → Prog (TpuEff nD τ sig (Elt F) Λ₀ .tc) α}
    {sm : DmaSem sig} (hm : sm = xSem) {hsrc : (xH : Memref sig .tc .hbm S256x4096 .f32).view.WordExact}
    {hdst : (xM : Memref sig .tc .vmem S256x4096 .f32).view.WordExact}
    {hsem : DmaTarget.Typed (nD := nD) (τ := τ) (p := .tc) .hbm (.dma sm) (.here (xM : Memref sig .tc .vmem S256x4096 .f32))} :
    Xfree m c
      ⊢ iprop((Xfly m c -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma xH (.here xM) (.dma sm) hsrc hdst hsem) kk) Q) := by
  subst hm
  unfold Xfree Xfly
  iintro ⟨⟨%f, Hd⟩, Hv, Hs⟩ Hk
  iapply (Transfers.wp_dmaLocal EC 𝒱₀ (c : Thread nD τ) none (src := xH) (dst := xM) (Sd := (xM : Memref sig .tc .vmem S256x4096 .f32).view.set)
    (fd := f) () Nx rfl (View.dmaCredit_pos _ (by decide)) (Finset.Subset.refl _)) $$ [Hs Hd Hv]
  · isplitl [Hs]; · iexact Hs
    isplitl [Hd] <;> iassumption
  iintro HF
  iapply Hk
  iexists f; iexact HF

theorem xland_step {α : Type} {Q : α → sProp 𝕄} {kk : PUnit → Prog (TpuEff nD τ sig (Elt F) Λ₀ .tc) α}
    {T : Finset (Fin 15)} {sm : DmaSem sig} (hm : sm = xSem)
    {sp : Space} {s' : Shape} {e' : EltTy} {srcw : Memref sig .tc sp s' e'} {hsrc : srcw.view.WordExact}
    {hdst : (xM : Memref sig .tc .vmem S256x4096 .f32).view.WordExact} :
    iprop(levAts L lv ∗ Owe c (oSend c T) ∗ Xfly m c)
      ⊢ iprop(((Owe c (oSend c T) ∗ Xgot m c) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm srcw xM hsrc hdst) kk) Q) := by
  subst hm
  unfold Owe Xfly Xgot
  iintro ⟨#Hlev, ⟨%W, HO⟩, ⟨%f, HF⟩⟩ Hk
  iapply (Transfers.wp_waitLocalO EC 𝒱₀ (c : Thread nD τ) none (srcw := srcw) (dstw := xM) (hsrc := hsrc) (hdst := hdst) () (N := Nx) rfl
    (O := oSend c T)) $$ [HF HO]
  · isplitl [HF]; · iexact HF
    isplitl [HO]; · iexact HO
    iapply (mayWait_send c (.dma xSem) (by rw [lv_x]; decide) T); iexact Hlev
  iintro ⟨⟨Hd, Hs⟩, Hv, HO⟩
  iapply Hk
  isplitl [HO]; · iexists _; iexact HO
  isplitl [Hd]
  · iapply (Entails.of_eq (pointsTo_congr (write_eq_of_read (xM : Memref sig .tc .vmem S256x4096 .f32).view f (xOf m c) _ (read_xx m c)))); iexact Hd
  isplitl [Hv] <;> iassumption

/-! ## Loads and stores -/

/-- A load of the rows of `x`. -/
theorem loadx_step {α : Type} {Q : α → sProp 𝕄} {kv : Vec F S256x4096 .f32 → Prog (TpuEff nD τ sig (Elt F) Λ₀ .tc) α}
    {off : Fin 2 → ℕ} (hoff : off = fun _ => 0) {inb : ∀ a, off a + S256x4096.size a ≤ S256x4096.size a}
    {hl : (xM : Memref sig .tc .vmem S256x4096 .f32).view.LoadsAt (Rect.unit (s := S256x4096) off S256x4096.size inb).toLoadRect} :
    Xgot m c
      ⊢ iprop((Xgot m c -∗ wp frame (wpE (defs₀ (F := F)) 𝒱₀ (c : Thread nD τ) none) Set.univ (kv (xOf m c)) Q)
          -∗ wp frame (wpE (defs₀ (F := F)) 𝒱₀ (c : Thread nD τ) none) Set.univ
              (.op (.load xM (Rect.unit (s := S256x4096) off S256x4096.size inb).toLoadRect hl) kv) Q) := by
  have hr : (xM : Memref sig .tc .vmem S256x4096 .f32).view.readAt (Elt F) (Rect.unit (s := S256x4096) off S256x4096.size inb).toLoadRect (xOf m c) = xOf m c :=
    Memref.readAt_unit_zero (Elt F) cc0_scratch0 hoff inb (xOf m c)
  unfold Xgot
  iintro ⟨Hd, H⟩ Hk
  iapply (wp_load 𝒱₀ (c : Thread nD τ) none Set.univ (m := xM) (by rw [show (xM : Memref sig .tc .vmem S256x4096 .f32).view.set = Finset.univ from View.set_whole _]; exact Finset.subset_univ _)) $$ Hd
  iintro Hd
  rw [hr]
  iapply Hk
  isplitl [Hd] <;> iassumption

/-- The two halves of a slot holding tile `j`. -/
def Wtile (s : Fin 3) (j : Fin 8) : sProp 𝕄 := iprop(Wgot m c s 0 j ∗ Wgot m c s 1 j)

/-- Any load inside a slot of the weight buffer reads what tile `j` has there. -/
theorem loadw_step {α : Type} {Q : α → sProp 𝕄} (s : Fin 3) (j : Fin 8) {r : LoadRect S3x4096x256} {v : r.shape.Idx → Elt F .f32}
    {kv : (r.shape.Idx → Elt F .f32) → Prog (TpuEff nD τ sig (Elt F) Λ₀ .tc) α}
    (hin : r.set ⊆ (tileR s).set) (hv : (wM : Memref sig .tc .vmem S3x4096x256 .f32).view.readAt (Elt F) r (wFn m c j) = v)
    {hl : (wM : Memref sig .tc .vmem S3x4096x256 .f32).view.LoadsAt r} :
    Wtile m c s j
      ⊢ iprop((Wtile m c s j -∗ wp frame (wpE (defs₀ (F := F)) 𝒱₀ (c : Thread nD τ) none) Set.univ (kv v) Q)
          -∗ wp frame (wpE (defs₀ (F := F)) 𝒱₀ (c : Thread nD τ) none) Set.univ (.op (.load wM r hl) kv) Q) := by
  subst hv
  have hjoin := pointsTo_union (Ix := Unit) (Name := ℕ) (U := UU) (Lvl := ℕ) (ℓ := (wM : Memref sig .tc .vmem S3x4096x256 .f32).view.loc (c : Thread nD τ)) (q := fullShare)
    (f := wFn m c j) (halves_disj (p := (s, 0)) (p' := (s, 1)) (by simp))
  have hset (h : Fin 2) : (wPts c s h (wFn m c j) : sProp 𝕄)
      = ((wM : Memref sig .tc .vmem S3x4096x256 .f32).view.loc (c : Thread nD τ) ↦[(halfR s h).set]{fullShare} wFn m c j) := by
    unfold wPts; rw [wHalf_set]
  unfold Wtile Wgot
  rw [hset, hset]
  iintro ⟨⟨H0, H0'⟩, H1, H1'⟩ Hk
  ihave Hd := hjoin.2 $$ [H0 H1]
  · isplitl [H0] <;> iassumption
  iapply (wp_load 𝒱₀ (c : Thread nD τ) none Set.univ (m := wM) (S := (halfR s 0).set ∪ (halfR s 1).set)
    (by rw [← tile_halves, show (wM : Memref sig .tc .vmem S3x4096x256 .f32).view.setOn r.set = r.set from Finset.map_refl]; exact hin)) $$ Hd
  iintro Hd
  ihave Hd := hjoin.1 $$ Hd
  icases Hd with ⟨H0, H1⟩
  iapply Hk
  isplitl [H0 H0']
  · isplitl [H0] <;> iassumption
  isplitl [H1] <;> iassumption

/-- The send slots not yet stored to, at whatever they hold. -/
def idle (k : Fin 15) : sProp 𝕄 := iprop(∃ f, sPts (F := F) c k f)

/-- Storing a block into its send slot: the old contents are loaded first, and unused. -/
theorem put_step {α : Type} {Q : α → sProp 𝕄} {kk : PUnit → Prog (TpuEff nD τ sig (Elt F) Λ₀ .tc) α}
    (k : Fin 15) {S : Finset (Fin 15)} (hk : k ∉ S) {off : Fin 3 → ℕ} (hoff : off = ![k.val, 0, 0])
    {w : FVec F S1x256x128 .bf16} (hw : w = blkV m c k) {inb : ∀ a, off a + S1x256x128.size a ≤ S15x256x128.size a}
    {hl : (sM : Memref sig .tc .vmem S15x256x128 .bf16).view.LoadsAt (Rect.unit (s := S15x256x128) off S1x256x128.size inb).toLoadRect}
    {hx : ((sM : Memref sig .tc .vmem S15x256x128 .bf16).access (Rect.unit (s := S15x256x128) off S1x256x128.size inb)).Stores Finset.univ}
    {hm : (Finset.univ : Finset (Rect.unit (s := S15x256x128) off S1x256x128.size inb).shape.Idx) = Finset.univ
      ∨ ∀ a, (Rect.unit (s := S15x256x128) off S1x256x128.size inb).stride a = 1} :
    prog S none15 (idle c)
      ⊢ iprop(((prog (insert k S) none15 (idle c) ∗ sPts c k (sFn m c)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.load sM (Rect.unit (s := S15x256x128) off S1x256x128.size inb).toLoadRect hl) fun _ =>
                .op (.store sM (Rect.unit (s := S15x256x128) off S1x256x128.size inb) w Finset.univ hx hm) kk) Q) := by
  subst hoff hw
  have hset (f : Buf (Elt F) ((sSlot k).view.loc (c : Thread nD τ))) : (sPts c k f : sProp 𝕄)
      = (((sM : Memref sig .tc .vmem S15x256x128 .bf16).access (slotR k)).loc (c : Thread nD τ)
          ↦[((sM : Memref sig .tc .vmem S15x256x128 .bf16).access (slotR k)).set]{fullShare} f) := by
    unfold sPts; rw [sSlot_set, View.set_slice_whole]
  iintro HS Hk
  ihave HS := (prog_step none15 (idle c) k hk) $$ HS
  unfold idle
  icases HS with ⟨⟨%f, Hs⟩, Hclose⟩
  ihave Hs := (Entails.of_eq (hset f)) $$ Hs
  iapply (wp_load_rect 𝒱₀ (c : Thread nD τ) none Set.univ (m := sM) (r := slotR k) (Finset.Subset.refl _)) $$ Hs
  iintro Hs
  iapply (wp_store 𝒱₀ (c : Thread nD τ) none Set.univ (m := sM) (r := slotR k) (Mk := Finset.univ)
    (S := ((sM : Memref sig .tc .vmem S15x256x128 .bf16).access (slotR k)).set) (Finset.Subset.refl _)) $$ Hs
  iintro Hs
  iapply Hk
  isplitl [Hclose]
  · iapply Hclose; unfold none15; iempintro
  rw [hset (sFn m c)]
  iapply (Entails.of_eq (pointsTo_congr (write_eq_of_read (F := F) ((sM : Memref sig .tc .vmem S15x256x128 .bf16).access (slotR k)) f (sFn m c) _ (access_s m c k)))); iexact Hs

/-! ## The sends -/

/-- What the send of slot `k` takes besides the block: the slot it lands in, and the two duty tokens; and what it leaves. -/
def sendRes (k : Fin 15) : sProp 𝕄 :=
  iprop(slots c k ∗ dutyTok ER (sendCell c k) 0 0 ∗ dutyTok ER (recvCell (tgt c k) (land c k)) 0 0)
def sentRes (k : Fin 15) : sProp 𝕄 := cred (tallyAt (sendCell c k) () N)

theorem send_step {α : Type} {Q : α → sProp 𝕄} {kk : PUnit → Prog (TpuEff nD τ sig (Elt F) Λ₀ .tc) α}
    (k : Fin 15) {S : Finset (Fin 15)} (hk : k ∉ S) {n : Dev nD} (hn : n = tgt c k)
    {src : Memref sig .tc .vmem S256x128 .bf16} (hs : src = sSlot k) {dst : Memref sig .tc .vmem S256x128 .bf16} (hd : dst = rSlot (land c k))
    {sS sR : DmaSem sig} (hsS : sS = sSem k) (hsR : sR = rSem (land c k))
    {hsc : (dst : Memref sig (Dev.tc n : Thread nD τ).2.kind .vmem S256x128 .bf16).view.ref.isScScratch = false}
    {hsrc : src.view.WordExact} {hdst : dst.view.WordExact}
    {hsem : DmaTarget.Typed .vmem (.dma sR) (.remote (Dev.tc n : Thread nD τ) (dst : Memref sig (Dev.tc n : Thread nD τ).2.kind .vmem S256x128 .bf16) (.dma sS) hsc)} :
    iprop(world m K ∗ Owe c (oSend c S) ∗ sPts c k (sFn m c) ∗ prog S (sentRes c) (sendRes c))
      ⊢ iprop(((Owe c (oSend c (insert k S)) ∗ prog (insert k S) (sentRes c) (sendRes c))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) kk) Q) := by
  subst hn hs hd hsS hsR
  have hd₁ : (0 : Fin 15) ∈ (rd m).duties (sendCell c k) 0 := by rw [duties_send]; exact Finset.mem_singleton_self _
  have hd₂ : (0 : Fin 15) ∈ (rd m).duties (recvCell (tgt c k) (land c k)) 0 := by rw [duties_recv]; exact Finset.mem_singleton_self _
  have hp₁ : (sPts c k (sFn m c) : sProp 𝕄) ⊢ (rd m).payload (sendCell c k) 0 0 := by rw [payload_send]
  have hp₂ (f : Buf (Elt F) ((rSlot (land c k)).view.loc (tgt c k : Thread nD τ))) :
      (rPts (tgt c k) (land c k) ((rSlot (land c k)).view.write (Elt F) f ((sSlot k).view.read (Elt F) (sFn m c)) Finset.univ) : sProp 𝕄)
        ⊢ (rd m).payload (recvCell (tgt c k) (land c k)) 0 0 := by
    rw [payload_recv]
    exact Entails.of_eq (pointsTo_congr (write_eq_of_read (F := F) (rSlot (land c k)).view f (rFn m (tgt c k)) _ (read_sent m c k)))
  unfold Owe
  iintro ⟨#Hw, ⟨%W, HO⟩, Hs, HS⟩ Hk
  ihave HS := (prog_step (sentRes c) (sendRes c) k hk) $$ HS
  icases HS with ⟨HS, Hclose⟩
  unfold sendRes slots
  icases HS with ⟨⟨%f, Hr⟩, Ht₁, Ht₂⟩
  iapply (Rounds.wp_send_pointsTo 𝒱₀ ER (rd m) (c : Thread nD τ) none (c' := (tgt c k : Thread nD τ)) (src := sSlot k) (dst := rSlot (land c k))
    (κ₁ := K (c, .inr (.inl k))) (κ₂ := K (tgt c k, .inr (.inr (land c k)))) (r₁ := 0) (r₂ := 0) (d₁ := 0) (d₂ := 0) (fs := sFn m c) (fd := f)
    hd₁ hd₂ () () N (credit_r (land c k)) (amount_send m c k 0) (amount_recv m (tgt c k) (land c k) 0) (oSend c (insert k S)) (oSend_peel c hk)
    hp₁ (hp₂ f)) $$ [HO Hs Hr Ht₁ Ht₂]
  · isplitr; · iapply (inv_at m K (c, .inr (.inl k))); iexact Hw
    isplitr; · iapply (inv_at m K (tgt c k, .inr (.inr (land c k)))); iexact Hw
    isplitl [Hs]; · iexact Hs
    isplitl [Hr]; · iexact Hr
    isplitl [HO]; · iexact HO
    isplitl [Ht₁]; · iexact Ht₁
    isplitr; · iapply (reached_at m K (c, .inr (.inl k))); iexact Hw
    isplitl [Ht₂]; · iexact Ht₂
    iapply (reached_at m K (tgt c k, .inr (.inr (land c k)))); iexact Hw
  iintro ⟨Hc, HO⟩
  iapply Hk
  isplitl [HO]; · iexists W; iexact HO
  iapply Hclose; unfold sentRes; iexact Hc

/-! ## The output -/

/-- A store of the block of rows of device `b`: the old contents are loaded first, and unused. -/
theorem rows_step {α : Type} {Q : α → sProp 𝕄} {kk : PUnit → Prog (TpuEff nD τ sig (Elt F) Λ₀ .tc) α}
    (b : Dev nD) {off : Fin 2 → ℕ} (hoff : off = ![256 * b.val, 0])
    {w : FVec F S256x128 .f32} (hw : w = rowsV m c b) {inb : ∀ a, off a + S256x128.size a ≤ S4096x128.size a}
    {hl : (oM : Memref sig .tc .vmem S4096x128 .f32).view.LoadsAt (Rect.unit (s := S4096x128) off S256x128.size inb).toLoadRect}
    {hx : ((oM : Memref sig .tc .vmem S4096x128 .f32).access (Rect.unit (s := S4096x128) off S256x128.size inb)).Stores Finset.univ}
    {hm : (Finset.univ : Finset (Rect.unit (s := S4096x128) off S256x128.size inb).shape.Idx) = Finset.univ
      ∨ ∀ a, (Rect.unit (s := S4096x128) off S256x128.size inb).stride a = 1} :
    iprop(∃ f, oPts (F := F) c b f)
      ⊢ iprop((oPts c b (oFn m c) -∗ wp frame (wpE (defs₀ (F := F)) 𝒱₀ (c : Thread nD τ) none) Set.univ (kk ⟨⟩) Q)
          -∗ wp frame (wpE (defs₀ (F := F)) 𝒱₀ (c : Thread nD τ) none) Set.univ
              (.op (.load oM (Rect.unit (s := S4096x128) off S256x128.size inb).toLoadRect hl) fun _ =>
                .op (.store oM (Rect.unit (s := S4096x128) off S256x128.size inb) w Finset.univ hx hm) kk) Q) := by
  subst hoff hw
  have hset : ((oM : Memref sig .tc .vmem S4096x128 .f32).access (rowsR b)).set = (rowsR b).set := View.set_slice_whole _ _
  iintro ⟨%f, Hs⟩ Hk
  unfold oPts
  rw [← hset]
  iapply (wp_load_rect 𝒱₀ (c : Thread nD τ) none Set.univ (m := oM) (r := rowsR b) (Finset.Subset.refl _)) $$ Hs
  iintro Hs
  iapply (wp_store 𝒱₀ (c : Thread nD τ) none Set.univ (m := oM) (r := rowsR b) (Mk := Finset.univ)
    (S := ((oM : Memref sig .tc .vmem S4096x128 .f32).access (rowsR b)).set) (Finset.Subset.refl _)) $$ Hs
  iintro Hs
  iapply Hk
  iapply (Entails.of_eq (pointsTo_congr (write_eq_of_read (F := F) ((oM : Memref sig .tc .vmem S4096x128 .f32).access (rowsR b)) f (oFn m c) _ (load_o m c b)))); iexact Hs

/-! ## The receives -/

/-- What receiving into slot `k` (and getting send slot `k` back) takes, and what it leaves. -/
def awaiting (k : Fin 15) : sProp 𝕄 :=
  iprop(atPos ER (recvCell c k) 0 ∅ 0 ∗ cred (tallyAt (recvCell c k) () N) ∗ atPos ER (sendCell c k) 0 ∅ 0 ∗ cred (tallyAt (sendCell c k) () N)
    ∗ ∃ f, oPts (F := F) c (peer c k.rev) f)
def received (k : Fin 15) : sProp 𝕄 :=
  iprop(semVal (recvCell c k) 0 ∗ semVal (sendCell c k) 0 ∗ rPts c k (rFn m c) ∗ sPts c k (sFn m c) ∗ oPts c (peer c k.rev) (oFn m c))

/-- A wait on a cell of one duty, nothing owed: what the duty hands over, and the cell is done. -/
theorem xfer_step {α : Type} {Q : α → sProp 𝕄} {kk : PUnit → Prog (TpuEff nD τ sig (Elt F) Λ₀ .tc) α}
    (ix : CIx) {sm : DmaSem sig} (hsm : csem ix = .dma sm) {D : sProp 𝕄}
    (hN : (rd m).expect ((c : Thread nD τ), .dma sm) 0 = N)
    (hD : bigSep ((rd m).duties ((c : Thread nD τ), .dma sm) 0 \ ∅) (fun d => (rd m).payload ((c : Thread nD τ), .dma sm) 0 d) = D)
    {sp sp' : Space} {s s' : Shape} {e e' : EltTy} {srcw : Memref sig .tc sp s e} {dstw : Memref sig .tc sp' s' e'} (hd : dstw.view.dmaCredit = N)
    {hsrc : srcw.view.WordExact} {hdst : dstw.view.WordExact} :
    iprop(world m K ∗ Owe c 0 ∗ atPos ER ((c : Thread nD τ), .dma sm) 0 ∅ 0 ∗ cred (tallyAt ((c : Thread nD τ), .dma sm) () N))
      ⊢ iprop(((Owe c 0 ∗ semVal ((c : Thread nD τ), .dma sm) 0 ∗ D) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm srcw dstw hsrc hdst) kk) Q) := by
  have hinv : world m K ⊢ cellInv ER (rd m) (K (c, ix)) ((c : Thread nD τ), .dma sm) := by
    have h := inv_at m K (c, ix); unfold kcell at h; rw [← hsm]; exact h
  unfold Owe
  iintro ⟨#Hw, ⟨%W, HO⟩, Hat, Hc⟩ Hk
  rw [← hd]
  iapply (Rounds.wp_wait_rest_token 𝒱₀ ER (rd m) (c : Thread nD τ) none (κ := K (c, ix))
      (wpE_waitDma2_eq 𝒱₀ (c : Thread nD τ) none Set.univ) (Set.mem_univ _) () (O := 0) (W := W) (R := 0) (m := 0) (T := ∅)
      (by rw [Nat.zero_add, hN, hd])) $$ [Hc HO Hat]
  · isplitr; · iapply hinv; iexact Hw
    isplitl [Hc]; · iexact Hc
    isplitl [HO]; · iexact HO
    isplitr; · rw [MayWait_zero]; iempintro
    iexact Hat
  iintro ⟨HO, Hat, -, Hpay⟩
  ihave Hp := (Entails.of_eq hD) $$ Hpay
  ihave #Hi := hinv $$ Hw
  imod (Rounds.cell_close ER (rd m) (Set.mem_univ (K (c, ix))) (fun h => h) (R := 0 + 1) (duties_later m ((c : Thread nD τ), .dma sm))) $$ [Hat] with Hz
  · isplitr; · iexact Hi
    iexact Hat
  iapply Hk
  isplitl [HO]; · iexists _; iexact HO
  isplitl [Hz] <;> iassumption

/-- Receiving one block: the wait for it, the load of its slot, the store of the widened block into the sender's rows of the
    output, and the wait for the own send slot of the same number. -/
theorem receive_step {α : Type} {Q : α → sProp 𝕄} {kk : PUnit → Prog (TpuEff nD τ sig (Elt F) Λ₀ .tc) α}
    (k : Fin 15) {S : Finset (Fin 15)} (hk : k ∉ S)
    {sR sS : DmaSem sig} (hsR : sR = rSem k) (hsS : sS = sSem k)
    {src dst src' dst' : Memref sig .tc .vmem S256x128 .bf16} (hd : dst.view.dmaCredit = N) (hd' : dst'.view.dmaCredit = N)
    {hsrc : src.view.WordExact} {hdst : dst.view.WordExact} {hsrc' : src'.view.WordExact} {hdst' : dst'.view.WordExact}
    {off : Fin 3 → ℕ} (hoff : off = ![k.val, 0, 0]) {inb : ∀ a, off a + S1x256x128.size a ≤ S15x256x128.size a}
    {hl : (rM : Memref sig .tc .vmem S15x256x128 .bf16).view.LoadsAt (Rect.unit (s := S15x256x128) off S1x256x128.size inb).toLoadRect}
    {pay : FVec F S1x256x128 .bf16 → FVec F S256x128 .f32} (hpay : pay = k0_pay27)
    {off' : Fin 2 → ℕ} (hoff' : off' = ![256 * (peer c k.rev).val, 0]) {inb' : ∀ a, off' a + S256x128.size a ≤ S4096x128.size a}
    {hl' : (oM : Memref sig .tc .vmem S4096x128 .f32).view.LoadsAt (Rect.unit (s := S4096x128) off' S256x128.size inb').toLoadRect}
    {hx' : ((oM : Memref sig .tc .vmem S4096x128 .f32).access (Rect.unit (s := S4096x128) off' S256x128.size inb')).Stores Finset.univ}
    {hm' : (Finset.univ : Finset (Rect.unit (s := S4096x128) off' S256x128.size inb').shape.Idx) = Finset.univ
      ∨ ∀ a, (Rect.unit (s := S4096x128) off' S256x128.size inb').stride a = 1} :
    iprop(world m K ∗ Owe c 0 ∗ prog S (received m c) (awaiting c))
      ⊢ iprop(((Owe c 0 ∗ prog (insert k S) (received m c) (awaiting c))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 sR src dst hsrc hdst) fun _ =>
                .op (TpuEff.load (e := .bf16) rM (Rect.unit (s := S15x256x128) off S1x256x128.size inb).toLoadRect hl) fun v =>
                .op (.load oM (Rect.unit (s := S4096x128) off' S256x128.size inb').toLoadRect hl') fun _ =>
                .op (.store oM (Rect.unit (s := S4096x128) off' S256x128.size inb') (pay v) Finset.univ hx' hm') fun _ =>
                .op (.waitDma2 sS src' dst' hsrc' hdst') kk) Q) := by
  subst hsR hsS hoff hpay
  have hset (f : Buf (Elt F) ((rSlot k).view.loc (c : Thread nD τ))) : (rPts c k f : sProp 𝕄)
      = (((rM : Memref sig .tc .vmem S15x256x128 .bf16).access (slotR k)).loc (c : Thread nD τ)
          ↦[((rM : Memref sig .tc .vmem S15x256x128 .bf16).access (slotR k)).set]{fullShare} f) := by
    unfold rPts; rw [rSlot_set, View.set_slice_whole]
  have hread : ((rM : Memref sig .tc .vmem S15x256x128 .bf16).access (slotR k)).read (Elt F) (rFn m c) = landV m c k := load_r m c k
  iintro ⟨#Hw, HO, HS⟩ Hk
  ihave HS := (prog_step (received m c) (awaiting c) k hk) $$ HS
  icases HS with ⟨HS, Hclose⟩
  unfold awaiting
  icases HS with ⟨HaR, HcR, HaS, HcS, Hrows⟩
  iapply (xfer_step m K c (.inr (.inr k)) rfl (expect_recv m c k) (rest_recv m c k) hd) $$ [HO HaR HcR]
  · isplitr; · iexact Hw
    isplitl [HO]; · iexact HO
    isplitl [HaR] <;> iassumption
  iintro ⟨HO, HzR, Hr⟩
  ihave Hr := (Entails.of_eq (hset (rFn m c))) $$ Hr
  iapply (wp_load_rect 𝒱₀ (c : Thread nD τ) none Set.univ (m := rM) (r := slotR k) (Finset.Subset.refl _)) $$ Hr
  iintro Hr
  iapply (rows_step m c (peer c k.rev) hoff' ((congrArg k0_pay27 hread).trans (rowsV_peer m c k).symm)) $$ Hrows
  iintro Hrows
  iapply (xfer_step m K c (.inr (.inl k)) rfl (expect_send m c k) (rest_send m c k) hd') $$ [HO HaS HcS]
  · isplitr; · iexact Hw
    isplitl [HO]; · iexact HO
    isplitl [HaS] <;> iassumption
  iintro ⟨HO, HzS, Hs⟩
  iapply Hk
  isplitl [HO]; · iexact HO
  iapply Hclose
  ihave Hr := (Entails.of_eq (hset (rFn m c)).symm) $$ Hr
  unfold received
  isplitl [HzR]; · iexact HzR
  isplitl [HzS]; · iexact HzS
  isplitl [Hr]; · iexact Hr
  isplitl [Hs] <;> iassumption

end Rules

end Cert.Relay
-- ==== Proof.Passes.lean ====
/-
# Passes: the operations that recur together

Starting and awaiting both halves of a column tile, and emitting a block: storing it into its send slot and sending it.
-/
module

public import proofs.«01_k».proof.Proof.Steps

@[expose] public section

noncomputable section

namespace Cert.Relay

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CIx → ℕ) (c : Dev nD)

/-! ## Rules taking their premises one by one -/

theorem curry₃ {P₁ P₂ P₃ R : sProp (MT nD τ sig Unit (Elt F) ℕ UU ℕ)} (h : iprop(P₁ ∗ P₂ ∗ P₃) ⊢ R) : P₁ ⊢ iprop(P₂ -∗ P₃ -∗ R) := by
  iintro H1 H2 H3
  iapply h
  isplitl [H1]; · iexact H1
  isplitl [H2] <;> iassumption
theorem curry₄ {P₁ P₂ P₃ P₄ R : sProp (MT nD τ sig Unit (Elt F) ℕ UU ℕ)} (h : iprop(P₁ ∗ P₂ ∗ P₃ ∗ P₄) ⊢ R) :
    P₁ ⊢ iprop(P₂ -∗ P₃ -∗ P₄ -∗ R) := by
  iintro H1 H2 H3 H4
  iapply h
  isplitl [H1]; · iexact H1
  isplitl [H2]; · iexact H2
  isplitl [H3] <;> iassumption
theorem curry₅ {P₁ P₂ P₃ P₄ P₅ R : sProp (MT nD τ sig Unit (Elt F) ℕ UU ℕ)} (h : iprop(P₁ ∗ P₂ ∗ P₃ ∗ P₄ ∗ P₅) ⊢ R) :
    P₁ ⊢ iprop(P₂ -∗ P₃ -∗ P₄ -∗ P₅ -∗ R) := by
  iintro H1 H2 H3 H4 H5
  iapply h
  isplitl [H1]; · iexact H1
  isplitl [H2]; · iexact H2
  isplitl [H3]; · iexact H3
  isplitl [H4] <;> iassumption

/-! ## What the kernel's own slicing names -/

omit [FloatOps F] in
theorem wCols_of (h : Fin 2) (j : Fin 8) {off : Fin 2 → ℕ} (hoff : off = ![2048 * h.val, 256 * j.val])
    {inb : ∀ a, off a + S2048x256.size a ≤ S4096x2048.size a} {hst : ∀ a, (Rect.unit (s := S4096x2048) off S2048x256.size inb).stride a = 1} :
    (wH : Memref sig .tc .hbm S4096x2048 .f32).slice (Rect.unit (s := S4096x2048) off S2048x256.size inb) hst = wCols h j := by subst hoff; rfl
omit [FloatOps F] in
theorem rSlot_of (k : Fin 15) {off : Fin 3 → ℕ} (hoff : off = ![k.val, 0, 0]) {inb : ∀ a, off a + S1x256x128.size a ≤ S15x256x128.size a}
    {hst : ∀ a, (Rect.unit (s := S15x256x128) off S1x256x128.size inb).stride a = 1} :
    ((rM : Memref sig .tc .vmem S15x256x128 .bf16).slice (Rect.unit (s := S15x256x128) off S1x256x128.size inb) hst).squeeze S256x128
      squeezes_S1x256x128_S256x128 = rSlot k := by subst hoff; rfl

/-! ## Tiles -/

/-- A slot of the weight buffer free, or with a tile on its way into it. -/
def Tfree (s : Fin 3) : sProp 𝕄 := iprop(Wfree m c s 0 ∗ Wfree m c s 1)
def Tfly (s : Fin 3) (j : Fin 8) : sProp 𝕄 := iprop(Wfly m c s 0 j ∗ Wfly m c s 1 j)
theorem Wtile_free (s : Fin 3) (j : Fin 8) : Wtile m c s j ⊢ Tfree m c s := by
  unfold Wtile Tfree
  iintro ⟨H0, H1⟩
  isplitl [H0]
  · iapply (Wgot_free m c s 0 j); iexact H0
  · iapply (Wgot_free m c s 1 j); iexact H1

/-- Starting the copies of both halves of the tile of pass `jj`. -/
theorem tile_copy {α : Type} {Q : α → sProp 𝕄} {kk : PUnit → Prog (TpuEff nD τ sig (Elt F) Λ₀ .tc) α}
    (s : Fin 3) (j : Fin 8) {src src' : Memref sig .tc .hbm S2048x256 .f32} (hs : src = wCols 0 j) (hs' : src' = wCols 1 j)
    {dst dst' : Memref sig .tc .vmem S2048x256 .f32} (hd : dst = wHalf s 0) (hd' : dst' = wHalf s 1)
    {sm sm' : DmaSem sig} (hm : sm = wSem s 0) (hm' : sm' = wSem s 1)
    {hsrc : src.view.WordExact} {hdst : dst.view.WordExact} {hsem : DmaTarget.Typed (nD := nD) (τ := τ) (p := .tc) .hbm (.dma sm) (.here dst)}
    {hsrc' : src'.view.WordExact} {hdst' : dst'.view.WordExact} {hsem' : DmaTarget.Typed (nD := nD) (τ := τ) (p := .tc) .hbm (.dma sm') (.here dst')} :
    Tfree m c s
      ⊢ iprop((Tfly m c s j -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.here dst) (.dma sm) hsrc hdst hsem) fun _ =>
                .op (.enqueueDma src' (.here dst') (.dma sm') hsrc' hdst' hsem') kk) Q) := by
  unfold Tfree Tfly
  iintro ⟨H0, H1⟩ Hk
  iapply (copy_step m c s 0 j hs hd hm) $$ H0
  iintro H0
  iapply (copy_step m c s 1 j hs' hd' hm') $$ H1
  iintro H1
  iapply Hk
  isplitl [H0] <;> iassumption

/-- Waiting for both halves. -/
theorem tile_land {α : Type} {Q : α → sProp 𝕄} {kk : PUnit → Prog (TpuEff nD τ sig (Elt F) Λ₀ .tc) α}
    (s : Fin 3) (j : Fin 8) {T : Finset (Fin 15)} {sm sm' : DmaSem sig} (hm : sm = wSem s 0) (hm' : sm' = wSem s 1)
    {srcw srcw' : Memref sig .tc .hbm S2048x256 .f32} {dstw dstw' : Memref sig .tc .vmem S2048x256 .f32}
    (hd : dstw = wHalf s 0) (hd' : dstw' = wHalf s 1)
    {hsrc : srcw.view.WordExact} {hdst : dstw.view.WordExact} {hsrc' : srcw'.view.WordExact} {hdst' : dstw'.view.WordExact} :
    levAts L lv
      ⊢ iprop(Owe c (oSend c T) -∗ Tfly m c s j
          -∗ ((Owe c (oSend c T) ∗ Wtile m c s j) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 sm srcw dstw hsrc hdst) fun _ => .op (.waitDma2 sm' srcw' dstw' hsrc' hdst') kk) Q) := by
  unfold Tfly
  iintro #Hlev HO ⟨H0, H1⟩ Hk
  iapply (curry₃ (land_step m c s 0 j hm hd)) $$ Hlev HO H0
  iintro ⟨HO, H0⟩
  iapply (curry₃ (land_step m c s 1 j hm' hd')) $$ Hlev HO H1
  iintro ⟨HO, H1⟩
  iapply Hk
  unfold Wtile
  isplitl [HO]; · iexact HO
  isplitl [H0] <;> iassumption

/-- A load of a whole slot. -/
theorem tile_load {α : Type} {Q : α → sProp 𝕄} (s : Fin 3) (j : Fin 8) {off : Fin 3 → ℕ} (hoff : off = ![s.val, 0, 0])
    {inb : ∀ a, off a + S1x4096x256.size a ≤ S3x4096x256.size a} {kv : Vec F S1x4096x256 .f32 → Prog (TpuEff nD τ sig (Elt F) Λ₀ .tc) α}
    {hl : (wM : Memref sig .tc .vmem S3x4096x256 .f32).view.LoadsAt (Rect.unit (s := S3x4096x256) off S1x4096x256.size inb).toLoadRect} :
    Wtile m c s j
      ⊢ iprop((Wtile m c s j -∗ wp frame (wpE (defs₀ (F := F)) 𝒱₀ (c : Thread nD τ) none) Set.univ (kv (tileV m c j)) Q)
          -∗ wp frame (wpE (defs₀ (F := F)) 𝒱₀ (c : Thread nD τ) none) Set.univ
            (.op (.load wM (Rect.unit (s := S3x4096x256) off S1x4096x256.size inb).toLoadRect hl) kv) Q) := by
  subst hoff
  exact loadw_step m c s j (Finset.Subset.refl _) (load_w m c s j)

/-- A load of half the columns of slot 1, holding the last tile: the columns one device owns. -/
theorem half_load {α : Type} {Q : α → sProp 𝕄} (q : Dev nD) (o : ℕ) {off : Fin 3 → ℕ} (hoff : off = ![1, 0, o]) (ho : 256 * tileOf c 7 + o = 128 * q.val)
    {inb : ∀ a, off a + S1x4096x128.size a ≤ S3x4096x256.size a} {kv : Vec F S1x4096x128 .f32 → Prog (TpuEff nD τ sig (Elt F) Λ₀ .tc) α}
    {hl : (wM : Memref sig .tc .vmem S3x4096x256 .f32).view.LoadsAt (Rect.unit (s := S3x4096x256) off S1x4096x128.size inb).toLoadRect} :
    Wtile m c 1 (tileIx c 7)
      ⊢ iprop((Wtile m c 1 (tileIx c 7) -∗ wp frame (wpE (defs₀ (F := F)) 𝒱₀ (c : Thread nD τ) none) Set.univ (kv (colsV m c q)) Q)
          -∗ wp frame (wpE (defs₀ (F := F)) 𝒱₀ (c : Thread nD τ) none) Set.univ
            (.op (.load wM (Rect.unit (s := S3x4096x256) off S1x4096x128.size inb).toLoadRect hl) kv) Q) := by
  refine loadw_step m c 1 (tileIx c 7) (fun i hi => ?_) (load_w_half m c q (tileIx c 7) o off hoff ho inb)
  have h0 := (Rect.mem_set_unit.mp hi) 0
  rw [hoff] at h0
  simp at h0
  exact mem_tile.mpr (by show _ = 1; omega)

/-! ## Blocks -/

/-- Emitting a block. -/
theorem emit {α : Type} {Q : α → sProp 𝕄} {kk : PUnit → Prog (TpuEff nD τ sig (Elt F) Λ₀ .tc) α}
    (k : Fin 15) {S : Finset (Fin 15)} (hk : k ∉ S) {off : Fin 3 → ℕ} (hoff : off = ![k.val, 0, 0])
    {w : FVec F S1x256x128 .bf16} (hw : w = blkV m c k) {n : Dev nD} (hn : n = tgt c k)
    {src : Memref sig .tc .vmem S256x128 .bf16} (hs : src = sSlot k) {dst : Memref sig .tc .vmem S256x128 .bf16} (hd : dst = rSlot (land c k))
    {sS sR : DmaSem sig} (hsS : sS = sSem k) (hsR : sR = rSem (land c k))
    {inb : ∀ a, off a + S1x256x128.size a ≤ S15x256x128.size a}
    {hl : (sM : Memref sig .tc .vmem S15x256x128 .bf16).view.LoadsAt (Rect.unit (s := S15x256x128) off S1x256x128.size inb).toLoadRect}
    {hx : ((sM : Memref sig .tc .vmem S15x256x128 .bf16).access (Rect.unit (s := S15x256x128) off S1x256x128.size inb)).Stores Finset.univ}
    {hm : (Finset.univ : Finset (Rect.unit (s := S15x256x128) off S1x256x128.size inb).shape.Idx) = Finset.univ
      ∨ ∀ a, (Rect.unit (s := S15x256x128) off S1x256x128.size inb).stride a = 1}
    {hsc : (dst : Memref sig (Dev.tc n : Thread nD τ).2.kind .vmem S256x128 .bf16).view.ref.isScScratch = false}
    {hsrc : src.view.WordExact} {hdst : dst.view.WordExact}
    {hsem : DmaTarget.Typed .vmem (.dma sR) (.remote (Dev.tc n : Thread nD τ) (dst : Memref sig (Dev.tc n : Thread nD τ).2.kind .vmem S256x128 .bf16) (.dma sS) hsc)} :
    world m K
      ⊢ iprop(Owe c (oSend c S) -∗ prog S none15 (idle c) -∗ prog S (sentRes c) (sendRes c)
          -∗ ((Owe c (oSend c (insert k S)) ∗ prog (insert k S) none15 (idle c) ∗ prog (insert k S) (sentRes c) (sendRes c))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.load sM (Rect.unit (s := S15x256x128) off S1x256x128.size inb).toLoadRect hl) fun _ =>
                .op (.store sM (Rect.unit (s := S15x256x128) off S1x256x128.size inb) w Finset.univ hx hm) fun _ =>
                .op (.enqueueDma src (.remote (Dev.tc n : Thread nD τ) dst (.dma sS) hsc) (.dma sR) hsrc hdst hsem) kk) Q) := by
  iintro #Hw HO HI HS Hk
  iapply (put_step m c k hk hoff hw) $$ HI
  iintro ⟨HI, Hp⟩
  iapply (curry₄ (send_step m K c k hk hn hs hd hsS hsR)) $$ Hw HO Hp HS
  iintro ⟨HO, HS⟩
  iapply Hk
  isplitl [HO]; · iexact HO
  isplitl [HI] <;> iassumption

end Cert.Relay
-- ==== Proof.Pieces.lean ====
/-
# Pieces: the whole buffers a launch deals out, cut into the pieces the run works with, and put together again
-/
module

public import proofs.«01_k».proof.Proof.Passes

@[expose] public section

noncomputable section

namespace Cert.Relay

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Any buffer, any pieces -/

section Any
variable {ℓ : Loc nD τ sig} {T : Type} [Fintype T] [DecidableEq T] (P : T → Finset (Idx ℓ))
  (hc : (Finset.univ : Finset (Idx ℓ)) = Finset.univ.biUnion P) (hd : ∀ t t', t ≠ t' → Disjoint (P t) (P t'))
include hc hd

/-- A whole buffer is its pieces. -/
theorem cut (f : Buf (Elt F) ℓ) : (ℓ ↦{fullShare} f : sProp (MT nD τ sig Unit (Elt F) ℕ UU ℕ)) = bigSep Finset.univ fun t => ℓ ↦[P t]{fullShare} f := by
  rw [hc]; exact pointsTo_biUnion _ P fun t _ t' _ h => hd t t' h
/-- Whatever it holds, cut; -/
theorem cut_any : iprop(∃ f : Buf (Elt F) ℓ, ℓ ↦{fullShare} f) ⊢ (bigSep Finset.univ fun t => iprop(∃ f : Buf (Elt F) ℓ, ℓ ↦[P t]{fullShare} f) : sProp (MT nD τ sig Unit (Elt F) ℕ UU ℕ)) := by
  have h (f : Buf (Elt F) ℓ) (t : T) : (ℓ ↦[P t]{fullShare} f : sProp (MT nD τ sig Unit (Elt F) ℕ UU ℕ)) ⊢ iprop(∃ f : Buf (Elt F) ℓ, ℓ ↦[P t]{fullShare} f) := by
    iintro H; iexists f; iexact H
  have h' (f : Buf (Elt F) ℓ) := (Entails.of_eq (cut P hc hd f)).trans (bigSep_mono fun t _ => h f t)
  iintro ⟨%f, H⟩
  iapply (h' f); iexact H
/-- and together again. -/
theorem paste_any : (bigSep Finset.univ fun t => iprop(∃ f : Buf (Elt F) ℓ, ℓ ↦[P t]{fullShare} f) : sProp (MT nD τ sig Unit (Elt F) ℕ UU ℕ)) ⊢ iprop(∃ f : Buf (Elt F) ℓ, ℓ ↦{fullShare} f) := by
  iintro H
  ihave H := (BI.bigSep_exists_pi Finset.univ (fun (t : T) (f : Buf (Elt F) ℓ) => (ℓ ↦[P t]{fullShare} f : sProp 𝕄))) $$ H
  icases H with ⟨%fs, H⟩
  ihave H := (pointsTo_biUnion_join Finset.univ P fs (fun _ => Classical.ofNonempty) fun t _ t' _ h => hd t t' h) $$ H
  icases H with ⟨%g, -, H⟩
  iexists g
  rw [← hc]; iexact H
end Any

variable (m : (ℓ : Loc nD τ sig) → Buf (Elt F) ℓ) (c : Dev nD)

/-- A buffer of a device, whole, at whatever it holds. -/
abbrev whole (b : Ref sig .tc) : sProp 𝕄 := iprop(∃ f : Buf (Elt F) ((c : Thread nD τ).loc b), ((c : Thread nD τ).loc b) ↦{fullShare} f)

/-! ## The send and receive buffers -/

theorem s_cover : (Finset.univ : Finset S15x256x128.Idx) = Finset.univ.biUnion fun k => (sSlot k).view.set :=
  slots_cover.trans (congrArg Finset.univ.biUnion (funext fun k => (sSlot_set k).symm))
theorem s_disj (k k' : Fin 15) (h : k ≠ k') : Disjoint (sSlot k).view.set (sSlot k').view.set := by
  rw [sSlot_set, sSlot_set]; exact slots_disj h
theorem r_cover : (Finset.univ : Finset S15x256x128.Idx) = Finset.univ.biUnion fun k => (rSlot k).view.set :=
  slots_cover.trans (congrArg Finset.univ.biUnion (funext fun k => (rSlot_set k).symm))
theorem r_disj (k k' : Fin 15) (h : k ≠ k') : Disjoint (rSlot k).view.set (rSlot k').view.set := by
  rw [rSlot_set, rSlot_set]; exact slots_disj h

theorem send_cut : whole (F := F) c cc0_scratch2 ⊢ bigSep Finset.univ (idle c) :=
  cut_any (ℓ := (c : Thread nD τ).loc cc0_scratch2) _ s_cover s_disj
theorem send_paste : (bigSep Finset.univ fun k => sPts c k (sFn m c)) ⊢ whole (F := F) c cc0_scratch2 := by
  have h := Entails.of_eq (cut (ℓ := (c : Thread nD τ).loc cc0_scratch2) _ s_cover s_disj (sFn m c)).symm
  iintro H; iexists (sFn m c); iapply h; iexact H
/-- The receive slots, in the order the signals hand them over. -/
theorem recv_cut : whole (F := F) c cc0_scratch3 ⊢ bigSep Finset.univ fun j : Fin 15 => iprop(∃ f, rPts c j.rev f) :=
  (cut_any (ℓ := (c : Thread nD τ).loc cc0_scratch3) _ r_cover r_disj).trans
    (Entails.of_eq (bigSep_univ_equiv Fin.revPerm fun j : Fin 15 => (iprop(∃ f, rPts c j f) : sProp 𝕄)))
theorem recv_paste : (bigSep Finset.univ fun k => rPts c k (rFn m c)) ⊢ whole (F := F) c cc0_scratch3 := by
  have h := Entails.of_eq (cut (ℓ := (c : Thread nD τ).loc cc0_scratch3) _ r_cover r_disj (rFn m c)).symm
  iintro H; iexists (rFn m c); iapply h; iexact H

/-! ## The output -/

/-- Every device is `c` itself or so many places before it. -/
def others : Unit ⊕ Fin 15 → Dev nD
  | .inl _ => c
  | .inr k => peer c k.rev
theorem others_bij : ∀ c : Dev nD, Function.Bijective (others c) := by decide +kernel
theorem rows_all (Φ : Dev nD → sProp (MT nD τ sig Unit (Elt F) ℕ UU ℕ)) :
    bigSep Finset.univ Φ = iprop(Φ c ∗ bigSep Finset.univ fun k : Fin 15 => Φ (peer c k.rev)) := by
  rw [bigSep_univ_equiv (Equiv.ofBijective _ (others_bij c)), bigSep_univ_sum, bigSep_univ_of_subsingleton ()]; rfl
theorem out_cut : whole (F := F) c cc0_stg0_0 ⊢ iprop((∃ f, oPts c c f) ∗ bigSep Finset.univ fun k : Fin 15 => iprop(∃ f, oPts c (peer c k.rev) f)) :=
  (cut_any (ℓ := (c : Thread nD τ).loc cc0_stg0_0) (fun b : Dev nD => (rowsR b).set) rows_cover fun _ _ => rows_disj).trans
    (Entails.of_eq (rows_all c fun b => (iprop(∃ f, oPts c b f) : sProp 𝕄)))
theorem out_paste : iprop(oPts c c (oFn m c) ∗ bigSep Finset.univ fun k : Fin 15 => oPts c (peer c k.rev) (oFn m c))
    ⊢ (((c : Thread nD τ).loc cc0_stg0_0) ↦{fullShare} oFn m c : sProp 𝕄) :=
  (Entails.of_eq (rows_all c fun b => (oPts c b (oFn m c) : sProp 𝕄)).symm).trans
    (Entails.of_eq (cut (ℓ := (c : Thread nD τ).loc cc0_stg0_0) (fun b : Dev nD => (rowsR b).set) rows_cover (fun _ _ => rows_disj) (oFn m c)).symm)

/-! ## The weights and the weight buffer -/

theorem w_cover : (Finset.univ : Finset S3x4096x256.Idx) = Finset.univ.biUnion fun p : Fin 3 × Fin 2 => (wHalf p.1 p.2).view.set :=
  halves_cover.trans (congrArg Finset.univ.biUnion (funext fun p => (wHalf_set p.1 p.2).symm))
theorem w_disj (p p' : Fin 3 × Fin 2) (h : p ≠ p') : Disjoint (wHalf p.1 p.2).view.set (wHalf p'.1 p'.2).view.set := by
  rw [wHalf_set, wHalf_set]; exact halves_disj h
theorem wbuf_cut : whole (F := F) c cc0_scratch1 ⊢ bigSep Finset.univ fun p : Fin 3 × Fin 2 => iprop(∃ f, wPts c p.1 p.2 f) :=
  cut_any (ℓ := (c : Thread nD τ).loc cc0_scratch1) _ w_cover w_disj
theorem wbuf_paste : (bigSep Finset.univ fun p : Fin 3 × Fin 2 => iprop(∃ f, wPts c p.1 p.2 f)) ⊢ whole (F := F) c cc0_scratch1 :=
  paste_any (ℓ := (c : Thread nD τ).loc cc0_scratch1) _ w_cover w_disj

/-- The eight shares of the weights: six for the copies, two left over. -/
def eighth : (Fin 3 × Fin 2) ⊕ Fin 2 → Fin (2 ^ 3)
  | .inl p => ⟨2 * p.1.val + p.2.val, by have := p.1.isLt; have := p.2.isLt; show _ < 8; omega⟩
  | .inr i => ⟨6 + i.val, by have := i.isLt; show _ < 8; omega⟩
theorem eighth_bij : Function.Bijective eighth := by decide
/-- The shares no copy uses. -/
def wSpare : sProp 𝕄 :=
  bigSep Finset.univ fun i : Fin 2 => ((c : Thread nD τ).loc main_arg1) ↦[Finset.univ]{ShareLeaves.leaf 3 fullShare (eighth (.inr i))} wOf m c
theorem weights_eq : (((c : Thread nD τ).loc main_arg1) ↦{fullShare} wOf m c : sProp 𝕄)
    = iprop((bigSep Finset.univ fun p : Fin 3 × Fin 2 => wArg m c p.1 p.2 Finset.univ) ∗ wSpare m c) := by
  refine (ShareLeaves.pointsTo_leaves (ℓ := (c : Thread nD τ).loc main_arg1) Finset.univ (wOf m c) 3 fullShare).trans ?_
  rw [bigSep_univ_equiv (Equiv.ofBijective _ eighth_bij), bigSep_univ_sum]
  rfl

/-- The half slots' semaphores. -/
def wSems : sProp 𝕄 := bigSep Finset.univ fun p : Fin 3 × Fin 2 => semVal ((c : Thread nD τ), .dma (wSem p.1 p.2)) 0

theorem tiles_eq : iprop(Tfree m c 0 ∗ Tfree m c 1 ∗ Tfree m c 2)
    = iprop((bigSep Finset.univ fun p : Fin 3 × Fin 2 => iprop(∃ f, wPts c p.1 p.2 f)) ∗ wSems c
        ∗ bigSep Finset.univ fun p : Fin 3 × Fin 2 => wArg m c p.1 p.2 Finset.univ) := by
  have h2 (Φ : Fin 2 → sProp (MT nD τ sig Unit (Elt F) ℕ UU ℕ)) : bigSep Finset.univ Φ = iprop(Φ 0 ∗ Φ 1) := bigSep_univ_eq_bigSepL [0, 1] (by decide) (by decide) Φ
  have h3 (Φ : Fin 3 → sProp (MT nD τ sig Unit (Elt F) ℕ UU ℕ)) : bigSep Finset.univ Φ = iprop(Φ 0 ∗ Φ 1 ∗ Φ 2) := bigSep_univ_eq_bigSepL [0, 1, 2] (by decide) (by decide) Φ
  have h : bigSep Finset.univ (fun p : Fin 3 × Fin 2 => Wfree m c p.1 p.2) = iprop(Tfree m c 0 ∗ Tfree m c 1 ∗ Tfree m c 2) := by
    rw [bigSep_univ_prod, h3, h2, h2, h2]; rfl
  rw [← h]
  unfold Wfree wSems
  rw [bigSep_sep', bigSep_sep']

/-- Everything the weights' copies work with, from the argument, the buffer and the semaphores, and back. -/
theorem tiles_cut : iprop((((c : Thread nD τ).loc main_arg1) ↦{fullShare} wOf m c) ∗ whole c cc0_scratch1 ∗ wSems c)
    ⊢ iprop((Tfree m c 0 ∗ Tfree m c 1 ∗ Tfree m c 2) ∗ wSpare m c) := by
  rw [tiles_eq, weights_eq]
  iintro ⟨⟨Hw, Hsp⟩, Hb, Hs⟩
  isplitr [Hsp]
  · isplitl [Hb]; · iapply (wbuf_cut c); iexact Hb
    isplitl [Hs] <;> iassumption
  iexact Hsp
theorem tiles_paste : iprop((Tfree m c 0 ∗ Tfree m c 1 ∗ Tfree m c 2) ∗ wSpare m c)
    ⊢ iprop((((c : Thread nD τ).loc main_arg1) ↦{fullShare} wOf m c) ∗ whole c cc0_scratch1 ∗ wSems c) := by
  rw [tiles_eq, weights_eq]
  iintro ⟨⟨Hb, Hs, Hw⟩, Hsp⟩
  isplitl [Hw Hsp]
  · isplitl [Hw] <;> iassumption
  isplitl [Hb]; · iapply (wbuf_paste c); iexact Hb
  iexact Hs

/-! ## `x` -/

theorem x_cut : iprop((((c : Thread nD τ).loc main_arg0) ↦{fullShare} xOf m c) ∗ whole c cc0_scratch0 ∗ semVal ((c : Thread nD τ), .dma xSem) 0)
    ⊢ Xfree m c := by
  unfold Xfree xPts xArg
  rw [View.set_whole, View.set_whole]
  iintro ⟨Hx, Hb, Hs⟩
  isplitl [Hb]; · iexact Hb
  isplitl [Hs] <;> iassumption
theorem x_paste : Xgot m c
    ⊢ iprop((((c : Thread nD τ).loc main_arg0) ↦{fullShare} xOf m c) ∗ whole c cc0_scratch0 ∗ semVal ((c : Thread nD τ), .dma xSem) 0) := by
  unfold Xgot xPts xArg
  rw [View.set_whole, View.set_whole]
  iintro ⟨Hb, Hs, Hx⟩
  isplitl [Hx]; · iexact Hx
  isplitl [Hb]; · iexists (xOf m c); iexact Hb
  iexact Hs

end Cert.Relay

end
-- ==== Proof.Deal.lean ====
/-
# Deal: what the launch gives each device — invariants, positions, duty tokens, credit
-/
module

public import proofs.«01_k».proof.Proof.Pieces

@[expose] public section

noncomputable section

namespace Cert.Relay

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Cells and tokens -/

theorem kcell_injective : Function.Injective (kcell : Dev nD × CIx → GSem nD τ sig) := by
  rintro ⟨c, k⟩ ⟨c', k'⟩ h
  have h1 : c = c' := congrArg (fun g : GSem nD τ sig => g.1.1) h
  have h2 : role (csem k) = role (csem k') := congrArg (fun g : GSem nD τ sig => role g.2) h
  subst h1
  rcases k with ⟨⟩ | k | k <;> rcases k' with ⟨⟩ | k' | k' <;> simp only [csem, role_bar, role_send, role_recv, reduceCtorEq, Role.send.injEq, Role.recv.injEq] at h2
  · rfl
  · rw [h2]
  · rw [h2]
def allCells : Finset (GSem nD τ sig) := Finset.univ.map ⟨kcell, kcell_injective⟩

/-- The duty tokens of a device's own cells: its barrier's fifteen, one per send cell, one per receive cell. -/
abbrev TIx : Type := Fin 15 ⊕ (Fin 15 ⊕ Fin 15)
def tokCell : TIx → CIx
  | .inl _ => .inl ()
  | .inr k => .inr k
def tokDuty : TIx → Fin 15
  | .inl k => k
  | .inr _ => 0
abbrev tokOf (ct : Dev nD × TIx) : GSem nD τ sig × ℕ × Fin 15 := (kcell (ct.1, tokCell ct.2), 0, tokDuty ct.2)
theorem tokOf_injective : Function.Injective tokOf := by
  rintro ⟨c, t⟩ ⟨c', t'⟩ h
  have h1 := kcell_injective (congrArg Prod.fst h)
  have h2 : tokDuty t = tokDuty t' := congrArg (fun x : GSem nD τ sig × ℕ × Fin 15 => x.2.2) h
  simp only [Prod.mk.injEq] at h1
  obtain ⟨rfl, h1⟩ := h1
  rcases t with k | k <;> rcases t' with k' | k' <;> simp only [tokCell, reduceCtorEq, Sum.inr.injEq] at h1
  · have h3 : k = k' := h2
    rw [h3]
  · rw [h1]
def allToks : Finset (GSem nD τ sig × ℕ × Fin 15) := Finset.univ.map ⟨tokOf, tokOf_injective⟩

def u₀ : UU := (initOf (Pipeline.cells cfgs cellOf_inj) (Pipeline.launchToks cfgs cellOf_inj), (initOf allCells allToks, 1))

/-- The tokens of device `c`'s own cells, and those of the duties `c` itself pays. -/
def toks (c : Dev nD) : sProp 𝕄 :=
  iprop((bigSep Finset.univ fun k : Fin 15 => dutyTok ER (barCell c) 0 k)
    ∗ (bigSep Finset.univ fun k : Fin 15 => dutyTok ER (sendCell c k) 0 0) ∗ bigSep Finset.univ fun k : Fin 15 => dutyTok ER (recvCell c k) 0 0)
def payToks (c : Dev nD) : sProp 𝕄 :=
  iprop((bigSep Finset.univ fun j : Fin 15 => dutyTok ER (barCell (peer c j)) 0 j.rev)
    ∗ (bigSep Finset.univ fun k : Fin 15 => dutyTok ER (sendCell c k) 0 0)
    ∗ bigSep Finset.univ fun k : Fin 15 => dutyTok ER (recvCell (tgt c k) (land c k)) 0 0)

/-- Who pays which duty, as permutations: the device a signal goes to and the duty it pays there; the device a send goes to
    and the slot it lands in. -/
def sigPerm : Dev nD × Fin 15 ≃ Dev nD × Fin 15 where
  toFun p := (peer p.1 p.2, p.2.rev)
  invFun p := (peer p.1 p.2, p.2.rev)
  left_inv p := by simp only [peer_rev, Fin.rev_rev]
  right_inv p := by simp only [peer_rev, Fin.rev_rev]
def sendPerm : Dev nD × Fin 15 ≃ Dev nD × Fin 15 where
  toFun p := (tgt p.1 p.2, land p.1 p.2)
  invFun p := (peer p.1 p.2.rev, (land (peer p.1 p.2.rev)).symm p.2)
  left_inv p := by simp only [tgt, peer_rev, Equiv.symm_apply_apply]
  right_inv p := by simp only [tgt, Equiv.apply_symm_apply, peer_rev']

/-- The tokens dealt to those who pay. -/
theorem toks_around : (bigSep Finset.univ fun c : Dev nD => (toks c : sProp 𝕄)) ⊢ bigSep Finset.univ fun c : Dev nD => payToks c := by
  have h (e : Dev nD × Fin 15 ≃ Dev nD × Fin 15) (Φ : Dev nD × Fin 15 → sProp 𝕄) :
      (bigSep Finset.univ fun c : Dev nD => bigSep Finset.univ fun k : Fin 15 => Φ (c, k))
        = bigSep Finset.univ fun c : Dev nD => bigSep Finset.univ fun k : Fin 15 => Φ (e (c, k)) := by
    rw [← bigSep_univ_prod, bigSep_univ_equiv e, bigSep_univ_prod]
  unfold toks payToks
  rw [bigSep_sep', bigSep_sep', bigSep_sep', bigSep_sep', h sigPerm fun p => dutyTok ER (barCell p.1) 0 p.2,
    h sendPerm fun p => dutyTok ER (recvCell p.1 p.2) 0 0]
  exact Entails.rfl

/-! ## What each device gets before the invariants stand, and after -/

/-- The semaphores the device keeps: those of its own copies. -/
def ownVals (c : Dev nD) : sProp 𝕄 := iprop(semVal ((c : Thread nD τ), .dma xSem) 0 ∗ wSems c)
def G (c : Dev nD) : sProp 𝕄 :=
  iprop((bigSep Finset.univ fun k : CIx => roundState ER (rd m) (kcell (c, k)) 0)
    ∗ (bigSep Finset.univ fun k : CIx => iprop(atPos ER (kcell (c, k)) 0 ∅ 0 ∗ reached ER (kcell (c, k)) 0)) ∗ toks c)
def linear (c : Dev nD) : sProp 𝕄 :=
  iprop((bigSep Finset.univ fun k : CIx => atPos ER (kcell (c, k)) 0 ∅ 0) ∗ payToks c ∗ ownVals c)
def G' (c : Dev nD) : sProp 𝕄 := iprop(∃ K, world m K ∗ linear c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (rd m) allCells allToks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- The launch element's split. -/
theorem fund_u₀ : (ownU u₀ : sProp 𝕄)
    ⊢ |={Set.univ}=> iprop(BI.own (EP (initOf (Pipeline.cells cfgs cellOf_inj) (Pipeline.launchToks cfgs cellOf_inj))) ∗ bigSep Finset.univ (G m)) := by
  have h : (BI.own ((embR : Emb (UB × Counters) 𝕄) (initOf allCells allToks, 1)) : sProp 𝕄) ⊢ BI.own (ER (initOf allCells allToks)) := Entails.rfl
  unfold u₀
  iintro Hu
  ihave H := (ownU_pair _ _) $$ Hu
  icases H with ⟨HP, HX⟩
  ihave HX := h $$ HX
  imod (fund_all m) $$ HX with HG
  imodintro
  isplitl [HP] <;> iassumption

/-! ## Semaphores -/

/-- The kernel's own semaphores: its copies', its sends', its receives'. -/
abbrev OIx : Type := Unit ⊕ ((Fin 3 × Fin 2) ⊕ (Fin 15 ⊕ Fin 15))
def osem : OIx → SemLoc sig
  | .inl _ => .dma xSem
  | .inr (.inl p) => .dma (wSem p.1 p.2)
  | .inr (.inr (.inl k)) => .dma (sSem k)
  | .inr (.inr (.inr k)) => .dma (rSem k)
theorem ownSemFacts : Pipeline.OwnSemFacts cfg0.spec osem := by decide +kernel

abbrev ownSems (c : Dev nD) : sProp 𝕄 := Pipeline.ownSems0 (Ix := Unit) (Name := ℕ) (U := UU) (Lvl := ℕ) (Val := Elt F) (τ := τ) osem c
theorem ownSems0_eq (c : Dev nD) : (ownSems c : sProp 𝕄)
    = iprop(semVal ((c : Thread nD τ), .dma xSem) 0 ∗ wSems c
      ∗ (bigSep Finset.univ fun k => semVal (sendCell c k) 0) ∗ bigSep Finset.univ fun k => semVal (recvCell c k) 0) := by
  unfold ownSems Pipeline.ownSems0
  rw [bigSep_univ_sum, bigSep_univ_sum, bigSep_univ_sum, bigSep_univ_of_subsingleton ()]; rfl
/-- The barrier semaphore is the one that outlives the kernel. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl
theorem sems0_eq (c : Dev nD) :
    iprop(ownSems c ∗ unscopedSems0 c) ⊢ (iprop((bigSep Finset.univ fun k : CIx => semVal (kcell (c, k)) 0) ∗ ownVals c) : sProp 𝕄) := by
  have h : (bigSep Finset.univ fun k : CIx => (semVal (kcell (c, k)) 0 : sProp 𝕄))
      = iprop(semVal (barCell c) 0 ∗ (bigSep Finset.univ fun k => semVal (sendCell c k) 0) ∗ bigSep Finset.univ fun k => semVal (recvCell c k) 0) := by
    rw [bigSep_univ_sum, bigSep_univ_sum, bigSep_univ_of_subsingleton ()]; rfl
  rw [ownSems0_eq, unscopedSems0_eq, h]
  unfold ownVals
  iintro ⟨⟨Hx, Hw, Hs, Hr⟩, Hb⟩
  isplitl [Hb Hs Hr]
  · isplitl [Hb]; · iexact Hb
    isplitl [Hs] <;> iassumption
  isplitl [Hx] <;> iassumption

/-! ## The invariants, for all devices at once -/

theorem core_alloc (c : Dev nD) :
    iprop(ownSems c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ ownVals c) := by
  have hi : iprop((bigSep Finset.univ fun k : CIx => semVal (kcell (c, k)) 0) ∗ bigSep Finset.univ fun k : CIx => roundState ER (rd m) (kcell (c, k)) 0)
      ⊢ (|={Set.univ}=> bigSep Finset.univ fun k => iprop(∃ κ : ℕ, cellInv ER (rd m) κ (kcell (c, k))) : sProp 𝕄) := by
    rw [← bigSep_sep']
    exact (bigSep_mono fun k _ => (Rounds.body_intro ER (rd m) (kcell (c, k))).trans inv_alloc).trans (bigSep_fupd _ _)
  unfold G
  iintro ⟨Hos, Hus, Hst, Hat, Htok⟩
  ihave Hv := (sems0_eq (F := F) c) $$ [Hos Hus]
  · isplitl [Hos] <;> iassumption
  icases Hv with ⟨Hv, Hown⟩
  imod hi $$ [Hv Hst] with Hinv
  · isplitl [Hv] <;> iassumption
  imodintro
  isplitl [Hinv]; · iexact Hinv
  isplitl [Hat]; · iexact Hat
  isplitl [Htok] <;> iassumption

/-- A persistent fact goes to every member. -/
theorem bigSep_with {I : Type} [DecidableEq I] {S : Finset I} {R : sProp (MT nD τ sig Unit (Elt F) ℕ UU ℕ)} [BI.Persistent R]
    {Φ Ψ : I → sProp (MT nD τ sig Unit (Elt F) ℕ UU ℕ)} (h : ∀ i, iprop(R ∗ Φ i) ⊢ Ψ i) : iprop(R ∗ bigSep S Φ) ⊢ bigSep S Ψ := by
  have hp : iprop(R ∗ bigSep S Φ) ⊢ bigSep S fun i => iprop(R ∗ Φ i) := by
    rw [bigSep_sep']
    iintro ⟨#HR, H⟩
    isplitr; · iapply (BI.bigSep_of_persistent S R); iexact HR
    iexact H
  exact hp.trans (bigSep_mono fun i _ => h i)

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ ownVals c) : sProp 𝕄)
      ⊢ bigSep Finset.univ (G' m) := by
  have hg (K : Dev nD × CIx → ℕ) (c : Dev nD) : iprop(world m K ∗ linear c) ⊢ G' m c := by
    unfold G'; iintro H; iexists K; iexact H
  have hl : (bigSep Finset.univ fun c : Dev nD => (linear c : sProp 𝕄))
      = iprop((bigSep Finset.univ fun c : Dev nD => bigSep Finset.univ fun k : CIx => atPos ER (kcell (c, k)) 0 ∅ 0)
        ∗ (bigSep Finset.univ fun c : Dev nD => payToks c) ∗ bigSep Finset.univ fun c : Dev nD => ownVals c) := by
    unfold linear; rw [bigSep_sep', bigSep_sep']
  rw [bigSep_sep', bigSep_sep', bigSep_sep', ← bigSep_univ_prod (fun ck : Dev nD × CIx => iprop(∃ κ : ℕ, cellInv ER (rd m) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok, Hown⟩
  ihave HK := (BI.bigSep_exists_pi Finset.univ (fun (ck : Dev nD × CIx) (κ : ℕ) => (cellInv ER (rd m) κ (kcell ck) : sProp 𝕄))) $$ HI
  icases HK with ⟨%K, #HI⟩
  ihave Htk := (toks_around (F := F)) $$ Htok
  iapply (bigSep_with (R := world m K) fun c => hg K c)
  isplitr
  · unfold world; isplitl; · iexact HI
    iexact HR
  iapply (Entails.of_eq hl.symm)
  isplitl [Hat]; · iexact Hat
  isplitl [Htk] <;> iassumption

theorem glob : (bigSep Finset.univ fun c => iprop(ownSems c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The launch credit -/

/-- Summed over all devices, what is owed along a permutation of (device, number) pairs is one portion per pair. -/
theorem owed_sum (e : Dev nD × Fin 15 ≃ Dev nD × Fin 15) (cell : Dev nD × Fin 15 → GSem nD τ sig) (n : ℕ) (g : GSem nD τ sig) :
    ∑ d : Dev nD, (∑ j ∈ (∅ : Finset (Fin 15))ᶜ, (tallyAt (cell (e (d, j))) () n : CellTallies nD τ sig Unit)) g () = ∑ p, if g = cell p then n else 0 := by
  rw [← Equiv.sum_comp e, Fintype.sum_prod_type, Finset.compl_empty]
  refine Finset.sum_congr rfl fun d _ => ?_
  rw [Finset.sum_apply, Finsupp.finset_sum_apply]
  refine Finset.sum_congr rfl fun j _ => ?_
  rw [tallyAt_apply]
  simp only [and_true]
theorem owed (g : GSem nD τ sig) : ∑ d : Dev nD, O₀ d g ()
    = (∑ p : Dev nD × Fin 15, if g = recvCell p.1 p.2 then N else 0) + ∑ p : Dev nD × Fin 15, if g = barCell p.1 then 1 else 0 := by
  rw [← owed_sum sendPerm (fun p => recvCell p.1 p.2) N g, ← owed_sum sigPerm (fun p => barCell p.1) 1 g, ← Finset.sum_add_distrib]
  rfl

theorem cell_eq {ck ck' : Dev nD × CIx} : (kcell ck = kcell ck') = (ck = ck') := propext kcell_injective.eq_iff
theorem owed_bar (c : Dev nD) : ∑ d : Dev nD, O₀ d (barCell c) () = 15 := by
  have h1 (p : Dev nD × Fin 15) : (barCell c = recvCell p.1 p.2) = False := (cell_eq (ck := (c, .inl ())) (ck' := (p.1, .inr (.inr p.2)))).trans (by simp)
  have h2 (p : Dev nD × Fin 15) : (barCell c = barCell p.1) = (c = p.1) := (cell_eq (ck := (c, .inl ())) (ck' := (p.1, .inl ()))).trans (by simp)
  rw [owed]
  simp only [h1, h2, if_false, Finset.sum_const_zero, Nat.zero_add]
  rw [Fintype.sum_prod_type, Finset.sum_congr rfl fun (d : Dev nD) _ => (Finset.sum_const (if c = d then 1 else 0)).trans (by rw [Finset.card_univ, Fintype.card_fin, smul_eq_mul, mul_ite, mul_one, mul_zero]),
    Finset.sum_ite_eq, if_pos (Finset.mem_univ _)]
theorem owed_recv (c : Dev nD) (k : Fin 15) : ∑ d : Dev nD, O₀ d (recvCell c k) () = N := by
  have h1 (p : Dev nD × Fin 15) : (recvCell c k = barCell p.1) = False := (cell_eq (ck := (c, .inr (.inr k))) (ck' := (p.1, .inl ()))).trans (by simp)
  have h2 (p : Dev nD × Fin 15) : (recvCell c k = recvCell p.1 p.2) = ((c, k) = p) :=
    (cell_eq (ck := (c, .inr (.inr k))) (ck' := (p.1, .inr (.inr p.2)))).trans (by rcases p with ⟨a, b⟩; simp)
  rw [owed]
  simp only [h1, h2, if_false, Finset.sum_const_zero, Nat.add_zero]
  rw [Finset.sum_ite_eq, if_pos (Finset.mem_univ _)]

theorem launch_cell (g : GSem nD τ sig) {n : ℕ} (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- The semaphores the launch credits. -/
def paid : Unit ⊕ Fin 15 ↪ SemLoc sig where
  toFun := fun | .inl _ => .reg barS | .inr k => .dma (rSem k)
  inj' := by
    intro a b h
    have h' := congrArg role h
    rcases a with ⟨⟩ | a <;> rcases b with ⟨⟩ | b <;> simp only [role_bar, role_recv, reduceCtorEq, Role.recv.injEq] at h'
    · rfl
    · rw [h']

theorem creds (c : Dev nD) : (Pipeline.launchCred O₀ c : sProp 𝕄)
    ⊢ iprop(cred (tallyAt (barCell c) () 15) ∗ bigSep Finset.univ fun k : Fin 15 => cred (tallyAt (recvCell c k) () N)) := by
  have h (k : Fin 15) := launch_cell (recvCell c k) (owed_recv c k)
  have hs (Φ : SemLoc sig → sProp 𝕄) : bigSep Finset.univ Φ ⊢ iprop(Φ (.reg barS) ∗ bigSep Finset.univ fun k : Fin 15 => Φ (.dma (rSem k))) := by
    have e : bigSep (Finset.univ.map paid) Φ = iprop(Φ (.reg barS) ∗ bigSep Finset.univ fun k : Fin 15 => Φ (.dma (rSem k))) := by
      rw [bigSep_map, bigSep_univ_sum, bigSep_univ_of_subsingleton ()]; rfl
    rw [← e]
    exact bigSep_subset (Finset.subset_univ _)
  unfold Pipeline.launchCred
  refine (hs _).trans (Entails.of_eq ?_)
  rw [launch_cell (barCell c) (owed_bar c)]
  simp only [h]

end Cert.Relay

end
-- ==== Proof.Body.lean ====
/-
# Body: the run of the kernel on one device
-/
module

public import proofs.«01_k».proof.Proof.Passes
public import proofs.«01_k».proof.Proof.Gen.KernelIdeal.Skeleton

@[expose] public section

noncomputable section

namespace Cert.Relay

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CIx → ℕ) (c : Dev nD)

/-! ## The state -/

/-- The duty tokens a send pays with. -/
def sendToks (k : Fin 15) : sProp 𝕄 := iprop(dutyTok ER (sendCell c k) 0 0 ∗ dutyTok ER (recvCell (tgt c k) (land c k)) 0 0)
/-- What receiving into slot `k` takes, apart from the credit the own send leaves. -/
def waitRes (k : Fin 15) : sProp 𝕄 :=
  iprop(atPos ER (recvCell c k) 0 ∅ 0 ∗ cred (tallyAt (recvCell c k) () N) ∗ atPos ER (sendCell c k) 0 ∅ 0 ∗ ∃ f, oPts (F := F) c (peer c k.rev) f)

/-- A device's state as its body begins. -/
def bodyPre : sProp 𝕄 :=
  iprop(world m K ∗ levAts L lv ∗ Owe c (O₀ c)
    ∗ cred (tallyAt (barCell c) () 15) ∗ atPos ER (barCell c) 0 ∅ 0
    ∗ bigSep Finset.univ (sigRes c) ∗ bigSep Finset.univ (sendToks c) ∗ bigSep Finset.univ (waitRes c) ∗ (∃ f, oPts (F := F) c c f)
    ∗ bigSep Finset.univ (idle c) ∗ Xfree m c ∗ Tfree m c 0 ∗ Tfree m c 1 ∗ Tfree m c 2)
/-- As it ends. -/
def bodyPost : sProp 𝕄 :=
  iprop(Owe c 0 ∗ semVal (barCell c) 0 ∗ bigSep Finset.univ (received m c) ∗ oPts c c (oFn m c)
    ∗ Xgot m c ∗ Tfree m c 0 ∗ Tfree m c 1 ∗ Tfree m c 2)

/-- The own credit a send left completes what receiving takes. -/
theorem awaiting_all : iprop(bigSep Finset.univ (sentRes (F := F) c) ∗ bigSep Finset.univ (waitRes c)) ⊢ bigSep Finset.univ (awaiting c) := by
  have h (k : Fin 15) : iprop(sentRes (F := F) c k ∗ waitRes c k) ⊢ awaiting c k := by
    unfold sentRes waitRes awaiting
    iintro ⟨Hc, Ha, Hb, Hd, He⟩
    isplitl [Ha]; · iexact Ha
    isplitl [Hb]; · iexact Hb
    isplitl [Hd]; · iexact Hd
    isplitl [Hc] <;> iassumption
  rw [← bigSep_sep']
  exact bigSep_mono fun k _ => h k
theorem sendRes_all : iprop(bigSep Finset.univ (slots (F := F) c) ∗ bigSep Finset.univ (sendToks c)) = bigSep Finset.univ (sendRes c) :=
  (bigSep_sep' _ _ _).symm

set_option maxHeartbeats 4000000 in
/-- The run. -/
theorem body_run : bodyPre m K c
    ⊢ wp frame (wpE (defs₀ (F := F)) 𝒱₀ (c : Thread nD τ) none) Set.univ
      (cc0_body (F := F) xH (Memref.isWhole_whole _) wH (Memref.isWhole_whole _) oM (Memref.isWhole_whole _) xM (Memref.isWhole_whole _)
        wM (Memref.isWhole_whole _) sM (Memref.isWhole_whole _) rM (Memref.isWhole_whole _) cc0_scratch4 cc0_scratch5 cc0_scratch6 cc0_scratch7)
      (fun _ => bodyPost m c) := by
  rw [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel
  simp only [semSignalWord, semWaitWord, Prog.lift, Prog.bind_op, Prog.bind_ret, Prog.pure_eq_ret, wp_deviceId]
  unfold bodyPre bodyPost
  iintro ⟨#Hw, #Hlev, HO, Hcb, Hab, HB, HT, HW, Hown, HI, HX, H0, H1, H2⟩
  ihave HB := (Entails.of_eq (prog_none none15 (sigRes c)).symm) $$ HB
  ihave HI := (Entails.of_eq (prog_none none15 (idle c)).symm) $$ HI
  unfold O₀
  iapply (curry₃ (signal_step m K c 0 (by decide) (sig_dev 0 c (by rfl)) rfl rfl)) $$ Hw HO HB
  iintro ⟨HO, HB⟩
  iapply (curry₃ (signal_step m K c 1 (by decide) (sig_dev 1 c (by rfl)) rfl rfl)) $$ Hw HO HB
  iintro ⟨HO, HB⟩
  iapply (curry₃ (signal_step m K c 2 (by decide) (sig_dev 2 c (by rfl)) rfl rfl)) $$ Hw HO HB
  iintro ⟨HO, HB⟩
  iapply (curry₃ (signal_step m K c 3 (by decide) (sig_dev 3 c (by rfl)) rfl rfl)) $$ Hw HO HB
  iintro ⟨HO, HB⟩
  iapply (curry₃ (signal_step m K c 4 (by decide) (sig_dev 4 c (by rfl)) rfl rfl)) $$ Hw HO HB
  iintro ⟨HO, HB⟩
  iapply (curry₃ (signal_step m K c 5 (by decide) (sig_dev 5 c (by rfl)) rfl rfl)) $$ Hw HO HB
  iintro ⟨HO, HB⟩
  iapply (curry₃ (signal_step m K c 6 (by decide) (sig_dev 6 c (by rfl)) rfl rfl)) $$ Hw HO HB
  iintro ⟨HO, HB⟩
  iapply (curry₃ (signal_step m K c 7 (by decide) (sig_dev 7 c (by rfl)) rfl rfl)) $$ Hw HO HB
  iintro ⟨HO, HB⟩
  iapply (curry₃ (signal_step m K c 8 (by decide) (sig_dev 8 c (by rfl)) rfl rfl)) $$ Hw HO HB
  iintro ⟨HO, HB⟩
  iapply (curry₃ (signal_step m K c 9 (by decide) (sig_dev 9 c (by rfl)) rfl rfl)) $$ Hw HO HB
  iintro ⟨HO, HB⟩
  iapply (curry₃ (signal_step m K c 10 (by decide) (sig_dev 10 c (by rfl)) rfl rfl)) $$ Hw HO HB
  iintro ⟨HO, HB⟩
  iapply (curry₃ (signal_step m K c 11 (by decide) (sig_dev 11 c (by rfl)) rfl rfl)) $$ Hw HO HB
  iintro ⟨HO, HB⟩
  iapply (curry₃ (signal_step m K c 12 (by decide) (sig_dev 12 c (by rfl)) rfl rfl)) $$ Hw HO HB
  iintro ⟨HO, HB⟩
  iapply (curry₃ (signal_step m K c 13 (by decide) (sig_dev 13 c (by rfl)) rfl rfl)) $$ Hw HO HB
  iintro ⟨HO, HB⟩
  iapply (curry₃ (signal_step m K c 14 (by decide) (sig_dev 14 c (by rfl)) rfl rfl)) $$ Hw HO HB
  iintro ⟨HO, HB⟩
  rw [oBar_all c (by decide), add_zero]
  iapply (xcopy_step m c x_sem) $$ HX
  iintro HX
  iapply (tile_copy m c 0 (tileIx c 0) (wCols_of 0 _ (loOff_eq c 0)) (wCols_of 1 _ (hiOff_eq c 0)) rfl rfl (w_sem 0 0 _ rfl _) (w_sem 0 1 _ rfl _)) $$ H0
  iintro H0
  iapply (tile_copy m c 1 (tileIx c 1) (wCols_of 0 _ (loOff_eq c 1)) (wCols_of 1 _ (hiOff_eq c 1)) rfl rfl (w_sem 1 0 _ rfl _) (w_sem 1 1 _ rfl _)) $$ H1
  iintro H1
  iapply (curry₃ (xland_step m c x_sem)) $$ Hlev HO HX
  iintro ⟨HO, HX⟩
  iapply (loadx_step m c (by decide)) $$ HX
  iintro HX
  iapply (tile_land m c 0 (tileIx c 0) (w_sem 0 0 _ rfl _) (w_sem 0 1 _ rfl _) rfl rfl) $$ Hlev HO H0
  iintro ⟨HO, H0⟩
  iapply (tile_copy m c 2 (tileIx c 2) (wCols_of 0 _ (loOff_eq c 2)) (wCols_of 1 _ (hiOff_eq c 2)) rfl rfl (w_sem 2 0 _ rfl _) (w_sem 2 1 _ rfl _)) $$ H2
  iintro H2
  iapply (tile_load m c 0 (tileIx c 0) rfl) $$ H0
  iintro H0
  iapply (put_step m c 0 (by decide) rfl (by rfl)) $$ HI
  iintro ⟨HI, Hp0⟩
  iapply (put_step m c 1 (by decide) rfl (by rfl)) $$ HI
  iintro ⟨HI, Hp1⟩
  iapply (curry₅ (barrier_step m K c rfl rfl)) $$ Hw Hlev HO Hcb Hab
  iintro ⟨HO, Hzb, HS⟩
  ihave HS := (Entails.of_eq (sendRes_all c)) $$ [HS HT]
  · isplitl [HS] <;> iassumption
  ihave HS := (Entails.of_eq (prog_none (sentRes c) (sendRes c)).symm) $$ HS
  iapply (curry₄ (send_step m K c 0 (by decide) (send_dev 0 c (by rfl)) rfl (rSlot_of _ (send_off 0 c (by rfl))) (s_sem 0 _ rfl _) (r_sem _ _ (send_sem 0 c (by rfl)) _))) $$ Hw HO Hp0 HS
  iintro ⟨HO, HS⟩
  iapply (curry₄ (send_step m K c 1 (by decide) (send_dev 1 c (by rfl)) rfl (rSlot_of _ (send_off 1 c (by rfl))) (s_sem 1 _ rfl _) (r_sem _ _ (send_sem 1 c (by rfl)) _))) $$ Hw HO Hp1 HS
  iintro ⟨HO, HS⟩
  iapply (tile_land m c 1 (tileIx c 1) (w_sem 1 0 _ rfl _) (w_sem 1 1 _ rfl _) rfl rfl) $$ Hlev HO H1
  iintro ⟨HO, H1⟩
  ihave H0 := (Wtile_free m c 0 (tileIx c 0)) $$ H0
  iapply (tile_copy m c 0 (tileIx c 3) (wCols_of 0 _ (loOff_eq c 3)) (wCols_of 1 _ (hiOff_eq c 3)) rfl rfl (w_sem 0 0 _ rfl _) (w_sem 0 1 _ rfl _)) $$ H0
  iintro H0
  iapply (tile_load m c 1 (tileIx c 1) rfl) $$ H1
  iintro H1
  iapply (emit m K c 2 (by decide) rfl (by rfl) (send_dev 2 c (by rfl)) rfl (rSlot_of _ (send_off 2 c (by rfl))) (s_sem 2 _ rfl _) (r_sem _ _ (send_sem 2 c (by rfl)) _)) $$ Hw HO HI HS
  iintro ⟨HO, HI, HS⟩
  iapply (emit m K c 3 (by decide) rfl (by rfl) (send_dev 3 c (by rfl)) rfl (rSlot_of _ (send_off 3 c (by rfl))) (s_sem 3 _ rfl _) (r_sem _ _ (send_sem 3 c (by rfl)) _)) $$ Hw HO HI HS
  iintro ⟨HO, HI, HS⟩
  iapply (tile_land m c 2 (tileIx c 2) (w_sem 2 0 _ rfl _) (w_sem 2 1 _ rfl _) rfl rfl) $$ Hlev HO H2
  iintro ⟨HO, H2⟩
  ihave H1 := (Wtile_free m c 1 (tileIx c 1)) $$ H1
  iapply (tile_copy m c 1 (tileIx c 4) (wCols_of 0 _ (loOff_eq c 4)) (wCols_of 1 _ (hiOff_eq c 4)) rfl rfl (w_sem 1 0 _ rfl _) (w_sem 1 1 _ rfl _)) $$ H1
  iintro H1
  iapply (tile_load m c 2 (tileIx c 2) rfl) $$ H2
  iintro H2
  iapply (emit m K c 4 (by decide) rfl (by rfl) (send_dev 4 c (by rfl)) rfl (rSlot_of _ (send_off 4 c (by rfl))) (s_sem 4 _ rfl _) (r_sem _ _ (send_sem 4 c (by rfl)) _)) $$ Hw HO HI HS
  iintro ⟨HO, HI, HS⟩
  iapply (emit m K c 5 (by decide) rfl (by rfl) (send_dev 5 c (by rfl)) rfl (rSlot_of _ (send_off 5 c (by rfl))) (s_sem 5 _ rfl _) (r_sem _ _ (send_sem 5 c (by rfl)) _)) $$ Hw HO HI HS
  iintro ⟨HO, HI, HS⟩
  iapply (tile_land m c 0 (tileIx c 3) (w_sem 0 0 _ rfl _) (w_sem 0 1 _ rfl _) rfl rfl) $$ Hlev HO H0
  iintro ⟨HO, H0⟩
  ihave H2 := (Wtile_free m c 2 (tileIx c 2)) $$ H2
  iapply (tile_copy m c 2 (tileIx c 5) (wCols_of 0 _ (loOff_eq c 5)) (wCols_of 1 _ (hiOff_eq c 5)) rfl rfl (w_sem 2 0 _ rfl _) (w_sem 2 1 _ rfl _)) $$ H2
  iintro H2
  iapply (tile_load m c 0 (tileIx c 3) rfl) $$ H0
  iintro H0
  iapply (emit m K c 6 (by decide) rfl (by rfl) (send_dev 6 c (by rfl)) rfl (rSlot_of _ (send_off 6 c (by rfl))) (s_sem 6 _ rfl _) (r_sem _ _ (send_sem 6 c (by rfl)) _)) $$ Hw HO HI HS
  iintro ⟨HO, HI, HS⟩
  iapply (emit m K c 7 (by decide) rfl (by rfl) (send_dev 7 c (by rfl)) rfl (rSlot_of _ (send_off 7 c (by rfl))) (s_sem 7 _ rfl _) (r_sem _ _ (send_sem 7 c (by rfl)) _)) $$ Hw HO HI HS
  iintro ⟨HO, HI, HS⟩
  iapply (tile_land m c 1 (tileIx c 4) (w_sem 1 0 _ rfl _) (w_sem 1 1 _ rfl _) rfl rfl) $$ Hlev HO H1
  iintro ⟨HO, H1⟩
  ihave H0 := (Wtile_free m c 0 (tileIx c 3)) $$ H0
  iapply (tile_copy m c 0 (tileIx c 6) (wCols_of 0 _ (loOff_eq c 6)) (wCols_of 1 _ (hiOff_eq c 6)) rfl rfl (w_sem 0 0 _ rfl _) (w_sem 0 1 _ rfl _)) $$ H0
  iintro H0
  iapply (tile_load m c 1 (tileIx c 4) rfl) $$ H1
  iintro H1
  iapply (emit m K c 8 (by decide) rfl (by rfl) (send_dev 8 c (by rfl)) rfl (rSlot_of _ (send_off 8 c (by rfl))) (s_sem 8 _ rfl _) (r_sem _ _ (send_sem 8 c (by rfl)) _)) $$ Hw HO HI HS
  iintro ⟨HO, HI, HS⟩
  iapply (emit m K c 9 (by decide) rfl (by rfl) (send_dev 9 c (by rfl)) rfl (rSlot_of _ (send_off 9 c (by rfl))) (s_sem 9 _ rfl _) (r_sem _ _ (send_sem 9 c (by rfl)) _)) $$ Hw HO HI HS
  iintro ⟨HO, HI, HS⟩
  iapply (tile_land m c 2 (tileIx c 5) (w_sem 2 0 _ rfl _) (w_sem 2 1 _ rfl _) rfl rfl) $$ Hlev HO H2
  iintro ⟨HO, H2⟩
  ihave H1 := (Wtile_free m c 1 (tileIx c 4)) $$ H1
  iapply (tile_copy m c 1 (tileIx c 7) (wCols_of 0 _ (loOff_eq c 7)) (wCols_of 1 _ (hiOff_eq c 7)) rfl rfl (w_sem 1 0 _ rfl _) (w_sem 1 1 _ rfl _)) $$ H1
  iintro H1
  iapply (tile_load m c 2 (tileIx c 5) rfl) $$ H2
  iintro H2
  iapply (emit m K c 10 (by decide) rfl (by rfl) (send_dev 10 c (by rfl)) rfl (rSlot_of _ (send_off 10 c (by rfl))) (s_sem 10 _ rfl _) (r_sem _ _ (send_sem 10 c (by rfl)) _)) $$ Hw HO HI HS
  iintro ⟨HO, HI, HS⟩
  iapply (emit m K c 11 (by decide) rfl (by rfl) (send_dev 11 c (by rfl)) rfl (rSlot_of _ (send_off 11 c (by rfl))) (s_sem 11 _ rfl _) (r_sem _ _ (send_sem 11 c (by rfl)) _)) $$ Hw HO HI HS
  iintro ⟨HO, HI, HS⟩
  iapply (tile_land m c 0 (tileIx c 6) (w_sem 0 0 _ rfl _) (w_sem 0 1 _ rfl _) rfl rfl) $$ Hlev HO H0
  iintro ⟨HO, H0⟩
  iapply (tile_load m c 0 (tileIx c 6) rfl) $$ H0
  iintro H0
  iapply (emit m K c 12 (by decide) rfl (by rfl) (send_dev 12 c (by rfl)) rfl (rSlot_of _ (send_off 12 c (by rfl))) (s_sem 12 _ rfl _) (r_sem _ _ (send_sem 12 c (by rfl)) _)) $$ Hw HO HI HS
  iintro ⟨HO, HI, HS⟩
  iapply (emit m K c 13 (by decide) rfl (by rfl) (send_dev 13 c (by rfl)) rfl (rSlot_of _ (send_off 13 c (by rfl))) (s_sem 13 _ rfl _) (r_sem _ _ (send_sem 13 c (by rfl)) _)) $$ Hw HO HI HS
  iintro ⟨HO, HI, HS⟩
  iapply (tile_land m c 1 (tileIx c 7) (w_sem 1 0 _ rfl _) (w_sem 1 1 _ rfl _) rfl rfl) $$ Hlev HO H1
  iintro ⟨HO, H1⟩
  iapply (half_load m c (tgt c 14) _ (off11_eq c) (tgt_last c)) $$ H1
  iintro H1
  iapply (emit m K c 14 (by decide) rfl (by rfl) (send_dev 14 c (by rfl)) rfl (rSlot_of _ (send_off 14 c (by rfl))) (s_sem 14 _ rfl _) (r_sem _ _ (send_sem 14 c (by rfl)) _)) $$ Hw HO HI HS
  iintro ⟨HO, HI, HS⟩
  iapply (half_load m c c _ (off14_eq c) (own_last c)) $$ H1
  iintro H1
  iapply (rows_step m c c (off15_eq c) (rowsV_own m c).symm) $$ Hown
  iintro Hown
  ihave HS := (Entails.of_eq (prog_all (by decide) (sentRes c) (sendRes c))) $$ HS
  ihave HW := (awaiting_all c) $$ [HS HW]
  · isplitl [HS] <;> iassumption
  ihave HW := (Entails.of_eq (prog_none (received m c) (awaiting c)).symm) $$ HW
  rw [oSend_all c (by decide)]
  iapply (curry₃ (receive_step m K c 1 (by decide) (r_sem 1 _ rfl _) (s_sem 1 _ rfl _) (credit_r 1) (credit_s 1) rfl (by rfl) (row_off 1 c (by rfl)))) $$ Hw HO HW
  iintro ⟨HO, HW⟩
  iapply (curry₃ (receive_step m K c 2 (by decide) (r_sem 2 _ rfl _) (s_sem 2 _ rfl _) (credit_r 2) (credit_s 2) rfl (by rfl) (row_off 2 c (by rfl)))) $$ Hw HO HW
  iintro ⟨HO, HW⟩
  iapply (curry₃ (receive_step m K c 3 (by decide) (r_sem 3 _ rfl _) (s_sem 3 _ rfl _) (credit_r 3) (credit_s 3) rfl (by rfl) (row_off 3 c (by rfl)))) $$ Hw HO HW
  iintro ⟨HO, HW⟩
  iapply (curry₃ (receive_step m K c 4 (by decide) (r_sem 4 _ rfl _) (s_sem 4 _ rfl _) (credit_r 4) (credit_s 4) rfl (by rfl) (row_off 4 c (by rfl)))) $$ Hw HO HW
  iintro ⟨HO, HW⟩
  iapply (curry₃ (receive_step m K c 5 (by decide) (r_sem 5 _ rfl _) (s_sem 5 _ rfl _) (credit_r 5) (credit_s 5) rfl (by rfl) (row_off 5 c (by rfl)))) $$ Hw HO HW
  iintro ⟨HO, HW⟩
  iapply (curry₃ (receive_step m K c 6 (by decide) (r_sem 6 _ rfl _) (s_sem 6 _ rfl _) (credit_r 6) (credit_s 6) rfl (by rfl) (row_off 6 c (by rfl)))) $$ Hw HO HW
  iintro ⟨HO, HW⟩
  iapply (curry₃ (receive_step m K c 7 (by decide) (r_sem 7 _ rfl _) (s_sem 7 _ rfl _) (credit_r 7) (credit_s 7) rfl (by rfl) (row_off 7 c (by rfl)))) $$ Hw HO HW
  iintro ⟨HO, HW⟩
  iapply (curry₃ (receive_step m K c 8 (by decide) (r_sem 8 _ rfl _) (s_sem 8 _ rfl _) (credit_r 8) (credit_s 8) rfl (by rfl) (row_off 8 c (by rfl)))) $$ Hw HO HW
  iintro ⟨HO, HW⟩
  iapply (curry₃ (receive_step m K c 9 (by decide) (r_sem 9 _ rfl _) (s_sem 9 _ rfl _) (credit_r 9) (credit_s 9) rfl (by rfl) (row_off 9 c (by rfl)))) $$ Hw HO HW
  iintro ⟨HO, HW⟩
  iapply (curry₃ (receive_step m K c 10 (by decide) (r_sem 10 _ rfl _) (s_sem 10 _ rfl _) (credit_r 10) (credit_s 10) rfl (by rfl) (row_off 10 c (by rfl)))) $$ Hw HO HW
  iintro ⟨HO, HW⟩
  iapply (curry₃ (receive_step m K c 11 (by decide) (r_sem 11 _ rfl _) (s_sem 11 _ rfl _) (credit_r 11) (credit_s 11) rfl (by rfl) (row_off 11 c (by rfl)))) $$ Hw HO HW
  iintro ⟨HO, HW⟩
  iapply (curry₃ (receive_step m K c 12 (by decide) (r_sem 12 _ rfl _) (s_sem 12 _ rfl _) (credit_r 12) (credit_s 12) rfl (by rfl) (row_off 12 c (by rfl)))) $$ Hw HO HW
  iintro ⟨HO, HW⟩
  iapply (curry₃ (receive_step m K c 13 (by decide) (r_sem 13 _ rfl _) (s_sem 13 _ rfl _) (credit_r 13) (credit_s 13) rfl (by rfl) (row_off 13 c (by rfl)))) $$ Hw HO HW
  iintro ⟨HO, HW⟩
  iapply (curry₃ (receive_step m K c 0 (by decide) (r_sem 0 _ rfl _) (s_sem 0 _ rfl _) (credit_r 0) (credit_s 0) rfl (by rfl) (row_off 0 c (by rfl)))) $$ Hw HO HW
  iintro ⟨HO, HW⟩
  iapply (curry₃ (receive_step m K c 14 (by decide) (r_sem 14 _ rfl _) (s_sem 14 _ rfl _) (credit_r 14) (credit_s 14) rfl (by rfl) (row_off 14 c (by rfl)))) $$ Hw HO HW
  iintro ⟨HO, HW⟩
  rw [wp_ret]
  imodintro
  ihave HW := (Entails.of_eq (prog_all (by decide) (received m c) (awaiting c))) $$ HW
  isplitl [HO]; · iexact HO
  isplitl [Hzb]; · iexact Hzb
  isplitl [HW]; · iexact HW
  isplitl [Hown]; · iexact Hown
  isplitl [HX]; · iexact HX
  isplitl [H0]; · iapply (Wtile_free m c 0 (tileIx c 6)); iexact H0
  isplitl [H1]; · iapply (Wtile_free m c 1 (tileIx c 7)); iexact H1
  iapply (Wtile_free m c 2 (tileIx c 5)); iexact H2

end Cert.Relay
-- ==== Proof.Launch.lean ====
/-
# Launch: the run of the whole machine
-/
module

public import proofs.«01_k».proof.Proof.Deal
public import proofs.«01_k».proof.Proof.Body
public import Idealize.ShloMosaic.Lib.Pipeline.Value
public import Idealize.ShloMosaic.Lib.Pipeline.CollectiveSegs

@[expose] public section

noncomputable section

namespace Cert.Relay

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## What a device holds before the body and after it -/

/-- The two arguments, as they were. -/
def args (c : Dev nD) : sProp 𝕄 :=
  iprop((((c : Thread nD τ).loc main_arg0) ↦{fullShare} xOf m c) ∗ (((c : Thread nD τ).loc main_arg1) ↦{fullShare} wOf m c))
/-- The scratch buffers, at whatever they hold. -/
def bufs (c : Dev nD) : sProp 𝕄 := iprop(whole c cc0_scratch0 ∗ whole c cc0_scratch1 ∗ whole c cc0_scratch2 ∗ whole c cc0_scratch3)
def start (c : Dev nD) : sProp 𝕄 :=
  iprop(G' m c ∗ cred (tallyAt (barCell c) () 15) ∗ (bigSep Finset.univ fun k : Fin 15 => cred (tallyAt (recvCell c k) () N)) ∗ levAts L lv ∗ args m c)
def Φ₀ (c : Dev nD) : sProp 𝕄 := iprop(start m c ∗ bufs c)
def Φ₁ (c : Dev nD) : sProp 𝕄 := iprop((args m c ∗ unscopedSems0 c) ∗ ownSems c ∗ bufs c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => oFn m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## Into the body and out of it -/

theorem enter (c : Dev nD) : iprop(Φ₀ m c ∗ Owe c (O₀ c) ∗ whole c cc0_stg0_0) ⊢ (iprop(∃ K, bodyPre m K c ∗ wSpare m c) : sProp 𝕄) := by
  have ht : (payToks c : sProp 𝕄) = iprop((bigSep Finset.univ fun j : Fin 15 => dutyTok ER (barCell (peer c j)) 0 j.rev) ∗ bigSep Finset.univ (sendToks c)) := by
    unfold payToks sendToks; rw [bigSep_sep']
  have hs : iprop((bigSep Finset.univ fun j : Fin 15 => dutyTok ER (barCell (peer c j)) 0 j.rev)
      ∗ bigSep Finset.univ fun j : Fin 15 => iprop(∃ f, rPts c j.rev f)) = (bigSep Finset.univ (sigRes c) : sProp 𝕄) := by
    unfold sigRes; rw [bigSep_sep']
  have hw : iprop((bigSep Finset.univ fun k : Fin 15 => atPos ER (recvCell c k) 0 ∅ 0) ∗ (bigSep Finset.univ fun k : Fin 15 => cred (tallyAt (recvCell c k) () N))
      ∗ (bigSep Finset.univ fun k : Fin 15 => atPos ER (sendCell c k) 0 ∅ 0) ∗ bigSep Finset.univ fun k : Fin 15 => iprop(∃ f, oPts c (peer c k.rev) f))
      = (bigSep Finset.univ (waitRes c) : sProp 𝕄) := by
    unfold waitRes; rw [bigSep_sep', bigSep_sep', bigSep_sep']
  have hp : (bigSep Finset.univ fun k : CIx => (atPos ER (kcell (c, k)) 0 ∅ 0 : sProp 𝕄))
      = iprop(atPos ER (barCell c) 0 ∅ 0 ∗ (bigSep Finset.univ fun k : Fin 15 => atPos ER (sendCell c k) 0 ∅ 0)
        ∗ bigSep Finset.univ fun k : Fin 15 => atPos ER (recvCell c k) 0 ∅ 0) := by
    rw [bigSep_univ_sum, bigSep_univ_sum, bigSep_univ_of_subsingleton ()]; rfl
  unfold Φ₀ start G' linear ownVals args bufs
  rw [ht, hp]
  iintro ⟨⟨⟨⟨%K, #Hw, ⟨HpB, HpS, HpR⟩, ⟨HtB, HtS⟩, HvX, HvW⟩, HcB, HcR, #Hlev, Hx, Hwt⟩, Hb0, Hb1, Hb2, Hb3⟩, HO, Hout⟩
  iexists K
  ihave Hr := (recv_cut c) $$ Hb3
  ihave Hs := (send_cut c) $$ Hb2
  ihave Ho := (out_cut c) $$ Hout
  icases Ho with ⟨Hown, Hrows⟩
  ihave HX := (x_cut m c) $$ [Hx Hb0 HvX]
  · isplitl [Hx]; · iexact Hx
    isplitl [Hb0] <;> iassumption
  ihave HT := (tiles_cut m c) $$ [Hwt Hb1 HvW]
  · isplitl [Hwt]; · iexact Hwt
    isplitl [Hb1] <;> iassumption
  icases HT with ⟨HT, Hsp⟩
  isplitr [Hsp]
  · unfold bodyPre
    isplitr; · iexact Hw
    isplitr; · iexact Hlev
    isplitl [HO]; · iexact HO
    isplitl [HcB]; · iexact HcB
    isplitl [HpB]; · iexact HpB
    isplitl [HtB Hr]
    · iapply (Entails.of_eq hs)
      isplitl [HtB] <;> iassumption
    isplitl [HtS]; · iexact HtS
    isplitl [HpR HcR HpS Hrows]
    · iapply (Entails.of_eq hw)
      isplitl [HpR]; · iexact HpR
      isplitl [HcR]; · iexact HcR
      isplitl [HpS] <;> iassumption
    isplitl [Hown]; · iexact Hown
    isplitl [Hs]; · iexact Hs
    isplitl [HX] <;> iassumption
  iexact Hsp

theorem leave (c : Dev nD) : iprop(bodyPost m c ∗ wSpare m c)
    ⊢ (iprop(Φ₁ m c ∗ Owe c 0 ∗ (((c : Thread nD τ).loc cc0_stg0_0) ↦{fullShare} oFn m c)) : sProp 𝕄) := by
  have hr : (bigSep Finset.univ (received m c) : sProp 𝕄)
      = iprop((bigSep Finset.univ fun k => semVal (recvCell c k) 0) ∗ (bigSep Finset.univ fun k => semVal (sendCell c k) 0)
        ∗ (bigSep Finset.univ fun k => rPts c k (rFn m c)) ∗ (bigSep Finset.univ fun k => sPts c k (sFn m c))
        ∗ bigSep Finset.univ fun k : Fin 15 => oPts c (peer c k.rev) (oFn m c)) := by
    unfold received; rw [bigSep_sep', bigSep_sep', bigSep_sep', bigSep_sep']
  unfold bodyPost Φ₁ args bufs
  rw [hr, ownSems0_eq, unscopedSems0_eq]
  iintro ⟨⟨HO, HvB, ⟨HvR, HvS, Hr, Hs, Hrows⟩, Hown, HX, HT⟩, Hsp⟩
  ihave HX := (x_paste m c) $$ HX
  icases HX with ⟨Hx, Hb0, HvX⟩
  ihave HT := (tiles_paste m c) $$ [HT Hsp]
  · isplitl [HT] <;> iassumption
  icases HT with ⟨Hwt, Hb1, HvW⟩
  isplitr [HO Hown Hrows]
  · isplitl [Hx Hwt HvB]
    · isplitr [HvB]
      · isplitl [Hx] <;> iassumption
      iexact HvB
    isplitl [HvX HvW HvS HvR]
    · isplitl [HvX]; · iexact HvX
      isplitl [HvW]; · iexact HvW
      isplitl [HvS] <;> iassumption
    isplitl [Hb0]; · iexact Hb0
    isplitl [Hb1]; · iexact Hb1
    isplitl [Hs]; · iapply (send_paste m c); iexact Hs
    iapply (recv_paste m c); iexact Hr
  isplitl [HO]; · iexact HO
  iapply (out_paste m c)
  isplitl [Hown] <;> iassumption

/-- The body between the two. -/
theorem body_between (c : Dev nD) : iprop(Φ₀ m c ∗ Owe c (O₀ c) ∗ whole c cc0_stg0_0)
    ⊢ wp frame (wpE (defs₀ (F := F)) 𝒱₀ (c : Thread nD τ) none) Set.univ
      (cc0_body (F := F) xH (Memref.isWhole_whole _) wH (Memref.isWhole_whole _) oM (Memref.isWhole_whole _) xM (Memref.isWhole_whole _)
        wM (Memref.isWhole_whole _) sM (Memref.isWhole_whole _) rM (Memref.isWhole_whole _) cc0_scratch4 cc0_scratch5 cc0_scratch6 cc0_scratch7)
      (fun _ => iprop(Φ₁ m c ∗ Owe c 0 ∗ (((c : Thread nD τ).loc cc0_stg0_0) ↦{fullShare} oFn m c))) := by
  refine (enter m c).trans ?_
  have h (K : Dev nD × CIx → ℕ) := (sep_mono_left (Q := wSpare m c) (body_run m K c)).trans ((wp_frame_r frame _ _).trans (wp_mono frame _ _ fun _ => leave m c))
  iintro ⟨%K, H⟩
  iapply (h K); iexact H

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

set_option maxRecDepth 8000 in
/-- The pipeline's obligation for the body, at its one point. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show iprop(Φ₀ m c ∗ (dats m ρ 0 c).owesAt () t0_0.castSucc
      ∗ (∃ d, ∃ f : Buf (Elt F) ((c : Thread nD τ).loc cc0_stg0_0), ⌜f = (dats m ρ 0 c).before (0 : Fin 1) t0_0 d⌝ ∗ (((c : Thread nD τ).loc cc0_stg0_0) ↦{fullShare} f)))
    ⊢ wp frame (wpE (defs₀ (F := F)) 𝒱₀ (c : Thread nD τ) none) Set.univ
      (cc0_body (F := F) xH (Memref.isWhole_whole _) wH (Memref.isWhole_whole _) oM (Memref.isWhole_whole _) xM (Memref.isWhole_whole _)
        wM (Memref.isWhole_whole _) sM (Memref.isWhole_whole _) rM (Memref.isWhole_whole _) cc0_scratch4 cc0_scratch5 cc0_scratch6 cc0_scratch7)
      (fun _ => iprop(Φ₁ m c ∗ (dats m ρ 0 c).owesAt () t0_0.succ
        ∗ (∃ f : Buf (Elt F) ((c : Thread nD τ).loc cc0_stg0_0), ⌜f = oFn m c⌝ ∗ (((c : Thread nD τ).loc cc0_stg0_0) ↦{fullShare} f))))
  have hpost : iprop(Φ₁ m c ∗ Owe c 0 ∗ (((c : Thread nD τ).loc cc0_stg0_0) ↦{fullShare} oFn m c))
      ⊢ iprop(Φ₁ m c ∗ (dats m ρ 0 c).owesAt () t0_0.succ
        ∗ (∃ f : Buf (Elt F) ((c : Thread nD τ).loc cc0_stg0_0), ⌜f = oFn m c⌝ ∗ (((c : Thread nD τ).loc cc0_stg0_0) ↦{fullShare} f))) := by
    unfold Dat.owesAt Pipeline.owesWithin Owe
    rw [show (dats m ρ 0 c).owed t0_0.succ = 0 from rfl]
    iintro ⟨HΦ, ⟨%W, HO⟩, Ho⟩
    isplitl [HΦ]; · iexact HΦ
    isplitl [HO]
    · iexists W
      isplitr; · ipureintro; exact fun _ _ => Or.inl trivial
      iexact HO
    iexists (oFn m c)
    isplitr; · ipureintro; rfl
    iexact Ho
  refine BIBase.Entails.trans ?_ ((body_between m c).trans (wp_mono frame _ _ fun _ => hpost))
  unfold Dat.owesAt Pipeline.owesWithin Owe
  rw [show (dats m ρ 0 c).owed t0_0.castSucc = O₀ c from rfl]
  iintro ⟨HΦ, ⟨%W, -, HO⟩, ⟨%d, %f, -, Ho⟩⟩
  isplitl [HΦ]; · iexact HΦ
  isplitl [HO]; · iexists W; iexact HO
  iexists f; iexact Ho

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hargs, Hlev, Hcr, -, HG⟩
  ihave Hc := (creds (F := F) c) $$ Hcr
  icases Hc with ⟨H1, HN⟩
  imodintro
  unfold start args
  isplitl
  · isplitl [HG]; · iexact HG
    isplitl [H1]; · iexact H1
    isplitl [HN]; · iexact HN
    isplitl [Hlev]; · iexact Hlev
    iexact Hargs
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs
  iintro ⟨Hs, -, Hr⟩
  isplitl [Hs] <;> iassumption

theorem phi1_exit (c : Dev nD) :
    (dats m ρ 0 c).Φ (Fin.last cfg0.N) ⊢ iprop((args m c ∗ unscopedSems0 c) ∗ Pipeline.ownSems0 osem c ∗ Pipeline.scopedRest cfg0.spec c) := by
  rw [show (dats m ρ 0 c).Φ (Fin.last cfg0.N) = Φ₁ m c from rfl, scopedRest0_eq]
  unfold Φ₁ bufs
  exact Entails.rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w; fin_cases s; decide) _ (by
      rcases t with ⟨_ | _, ht⟩
      · exact Or.inl rfl
      · exact Or.inr rfl)

/-- What a device holds of a buffer is what the memory has. -/
theorem read_buf (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h := pointsTo_read_all (Ix := Unit) (Name := ℕ) (U := UU) (Lvl := ℕ) {()} (fun _ => ℓ) (fun _ => f) s'
  rw [bigSep_singleton] at h
  refine h.trans ?_
  iintro ⟨%hf, H⟩
  isplitr; · ipureintro; exact hf () (Finset.mem_singleton_self _)
  iexact H

/-- What the end says of one device: its arguments as they were, its barrier counter zero. -/
def QY (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1))
    ∧ ∀ sm : SemLoc sig, sm.isScoped .tc = false → s.sem ((c : Thread nD τ), sm) = 0
theorem read_end (c : Dev nD) (s' : Phys nD τ sig (Elt F)) :
    iprop((args m c ∗ unscopedSems0 c) ∗ emp ∗ SI s') ⊢ (|={Set.univ}=> iprop(⌜QY m c s'.mem⌝ ∗ SI s') : sProp 𝕄) := by
  unfold args
  iintro ⟨⟨⟨H0, H1⟩, Hu⟩, -, HSI⟩
  ihave H := (read_buf ((c : Thread nD τ).loc main_arg0) (xOf m c) s') $$ [H0 HSI]
  · isplitl [H0] <;> iassumption
  icases H with ⟨%h0, HSI⟩
  ihave H := (read_buf ((c : Thread nD τ).loc main_arg1) (wOf m c) s') $$ [H1 HSI]
  · isplitl [H1] <;> iassumption
  icases H with ⟨%h1, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨⟨h0, h1⟩, hs⟩
  iexact HSI

/-! ## The result -/

theorem flushed_eq (c : Dev nD) (t : Fin cfg0.N) : (dats m ρ 0 c).flushed (0 : Fin 1) t = ((cfg0.win (0 : Fin 1)).blk t).view.read (Elt F) (oFn m c) := by
  obtain rfl := fin_N0 t
  have ha : (dats m ρ 0 c).after (0 : Fin 1) t0_0 = oFn m c := by dsimp only [dats]
  unfold Dat.flushed
  rw [ha]
  funext j
  show oFn m c _ = oFn m c _
  refine congrArg (oFn m c) (funext fun a => Fin.ext ?_)
  fin_cases a
  · show (j ⟨0, by decide⟩ : ℕ) = 0 + 1 * (j ⟨0, by decide⟩ : ℕ); omega
  · show (j ⟨1, by decide⟩ : ℕ) = 0 + 1 * (j ⟨1, by decide⟩ : ℕ); omega
theorem cover (i : S4096x128.Idx) : ∃ t : Fin cfg0.N, (cfg0.win (0 : Fin 1)).flush t = true ∧ i ∈ ((cfg0.win (0 : Fin 1)).blk t).view.set := by
  refine ⟨t0_0, flush0_0 _, ?_⟩
  show i ∈ ((View.whole main_v1).slice (win0_0.rect t0_0)).set
  rw [View.set_slice_whole, Rect.mem_set_unit]
  have h0 : (i 0 : ℕ) < 4096 := (i 0).isLt
  have h1 : (i 1 : ℕ) < 128 := (i 1).isLt
  intro a
  fin_cases a
  · exact ⟨Nat.zero_le _, h0⟩
  · exact ⟨Nat.zero_le _, h1⟩
theorem result_eq (c : Dev nD) : (dats m ρ 0 c).arrAt (0 : Fin 1) cfg0.N = oFn m c :=
  (dats m ρ 0 c).arrAt_eq_of_cover (0 : Fin 1) (oFn m c) (fun t _ => flushed_eq m ρ c t) cover

/-! ## The run -/

/-- Every device ends with its arguments as they were and its result the computed one. -/
def Ends (s : MemSt nD τ sig (Elt F)) : Prop :=
  ∀ c : Dev nD, (s.mem ((c : Thread nD τ).loc main_arg0) = m ((c : Thread nD τ).loc main_arg0) ∧ s.mem ((c : Thread nD τ).loc main_arg1) = m ((c : Thread nD τ).loc main_arg1))
    ∧ s.mem ((c : Thread nD τ).loc main_v1) = oFn m c

/-- From any memory, on sixteen devices, every fair execution ends, with the results, the arguments unchanged and every
    semaphore counter at zero. -/
theorem run_main : θ_run defs (onTc (τ := τ) (main (F := F))) (s₀ m ρ) (fun r => Ends m r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀) (hu₀ := fund_u₀ m) (hglob := glob m)
    (hA := fun _ _ => rfl) (hpf := fun _ k => k.elim0)
    (X := start m) (Y := fun c => iprop(args m c ∗ unscopedSems0 c)) (Z := fun _ => iprop(emp))
    (hX := start_intro m ρ) (hin := phi0_intro m ρ) (hout := phi1_exit m ρ)
    (QY := QY m) (hY := read_end m)
    (hQ := fun s h hs => ⟨fun c => ⟨(h c).2.2.1, ((h c).1 (0 : Fin 1)).trans (result_eq m ρ c)⟩, sem_eq_zero hs fun c => (h c).2.2.2⟩)

end Cert.Relay

end
-- ==== Proof.Value.lean ====
/-
# Value: what the devices compute, over the exact reals

Read at an element, every block a device computes is the maximum of zero and the inner product of a row of `x` and a column
of the weights; where the blocks land in the outputs, the row and the column are those of the output element in the whole
product.
-/
module

public import proofs.«01_k».proof.Proof.Contents
public import Idealize.ShloMosaic.Lib.MatmulPlain
public import Idealize.ShloMosaic.Lib.StackMember
public import Idealize.ShloMosaic.Lib.Layout
public import proofs.«01_k».proof.Proof.Gen.ReferenceIdeal.Run

@[expose] public section

noncomputable section

namespace Cert.Relay

open Cert.KernelIdeal Cert.KernelIdeal.Gen
open Idealize.ShloMosaic
open Idealize.ShloMosaic.TcCoe
open Idealize.ShloMosaic.ValueIdx
open scoped BigOperators

/-! ## One product, at an element -/

/-- Zero or the inner product of row `r` of `x` and column `q` of `w`, whichever is larger. -/
def relu {A B : ℕ} (x : FVec Ideal ⟨2, ![A, 4096]⟩ .f32) (w : FVec Ideal ⟨2, ![4096, B]⟩ .f32) (r : Fin A) (q : Fin B) : EReal :=
  max (∑ k : Fin 4096, x (ix2 r k) * w (ix2 k q)) 0

/-- A stacked weight block without its unit axis. -/
def flat {N : ℕ} (t : FVec Ideal ⟨3, ![1, 4096, N]⟩ .f32) : FVec Ideal ⟨2, ![4096, N]⟩ .f32 := fun i => t (ix3 0 (i 0) (i 1))

theorem cons_zero {A B : ℕ} (i : (⟨2, ![A, B]⟩ : Shape).Idx) :
    (Fin.cons (⟨0, Nat.one_pos⟩ : Fin 1) i : (⟨3, ![1, A, B]⟩ : Shape).Idx) = ix3 0 (i 0) (i 1) := by
  funext a; fin_cases a <;> rfl

/-- The product every block starts from: rounded operands, exact here, into zero, then the maximum with zero. -/
theorem product_apply {N : ℕ} (x : FVec Ideal ⟨2, ![256, 4096]⟩ .f32) (t : FVec Ideal ⟨3, ![1, 4096, N]⟩ .f32)
    (h : (⟨3, ![1, 4096, N]⟩ : Shape).ShapeCasts ⟨2, ![4096, N]⟩) (r : Fin 256) (q : Fin N) :
    max (FloatOps.matmul (F := Ideal) (φ₁ := .bf16) (φ₂ := .bf16) (DotDims.plain 256 4096 N) none x (shapeCast ⟨2, ![4096, N]⟩ t h)
      (constant ⟨2, ![256, N]⟩ .f32 0x00000000#32) (ix2 r q)) (Ideal.ofBits .f32 0x00000000#32) = relu x (flat t) r q := by
  rw [Ideal.matmul_plain_apply, show (constant ⟨2, ![256, N]⟩ .f32 0x00000000#32 : FVec Ideal ⟨2, ![256, N]⟩ .f32) (ix2 r q) = 0 from
    Ideal.ofBits_zero_f32, Ideal.ofBits_zero_f32, zero_add]
  refine congrArg (max · 0) (Finset.sum_congr rfl fun k _ => congrArg (x (ix2 r k) * ·) ?_)
  exact (shapeCast_dropUnit_apply (![4096, N]) t h (ix2 k q)).trans (congrArg t (cons_zero (ix2 k q)))

theorem wide_apply (x : FVec Ideal S256x4096 .f32) (t : FVec Ideal S1x4096x256 .f32) (r q : Fin 256) :
    (k0_pay5 (F := Ideal) (k0_pay1 x) t (ix2 r q) : EReal) = relu x (flat t) r q := product_apply x t shapeCasts_S1x4096x256_S4096x256 r q
theorem narrow_apply (x : FVec Ideal S256x4096 .f32) (t : FVec Ideal S1x4096x128 .f32) (r : Fin 256) (q : Fin 128) :
    (k0_pay24 (F := Ideal) (k0_pay1 x) t (ix2 r q) : EReal) = relu x (flat t) r q := product_apply x t shapeCasts_S1x4096x128_S4096x128 r q
theorem own_apply (x : FVec Ideal S256x4096 .f32) (t : FVec Ideal S1x4096x128 .f32) (r : Fin 256) (q : Fin 128) :
    (k0_pay26 (F := Ideal) (k0_pay1 x) t (ix2 r q) : EReal) = relu x (flat t) r q := product_apply x t shapeCasts_S1x4096x128_S4096x128 r q

/-! ## The cuts and casts around it, at an element -/

theorem stacked_apply {A B : ℕ} (v : FVec Ideal ⟨2, ![A, B]⟩ .bf16) (h : (⟨2, ![A, B]⟩ : Shape).ShapeCasts ⟨3, ![1, A, B]⟩) (r : Fin A) (q : Fin B) :
    shapeCast ⟨3, ![1, A, B]⟩ v h (ix3 0 r q) = v (ix2 r q) :=
  (shapeCast_addUnit_apply (![A, B]) v h (ix3 0 r q)).trans (congrArg v (by funext a; fin_cases a <;> rfl))

theorem low_apply (v : FVec Ideal S256x256 .bf16) (r : Fin 256) (q : Fin 128) : k0_pay6 (F := Ideal) v (ix3 0 r q) = v (ix2 r ⟨q.val, by omega⟩) := by
  refine (stacked_apply (extractStridedSlice S256x128 ![0, 0] v slices_S256x256_o0_0_S256x128) shapeCasts_S256x128_S1x256x128 r q).trans ?_
  refine extractStridedSlice_apply _ v _ (ix2 r q) (ix2 r ⟨q.val, by omega⟩) fun a => ?_
  match a with
  | ⟨0, _⟩ => exact (Nat.zero_add r.val).symm
  | ⟨1, _⟩ => exact (Nat.zero_add q.val).symm
theorem high_apply (v : FVec Ideal S256x256 .bf16) (r : Fin 256) (q : Fin 128) : k0_pay7 (F := Ideal) v (ix3 0 r q) = v (ix2 r ⟨128 + q.val, by omega⟩) := by
  refine (stacked_apply (extractStridedSlice S256x128 ![0, 128] v slices_S256x256_o0_128_S256x128) shapeCasts_S256x128_S1x256x128 r q).trans ?_
  refine extractStridedSlice_apply _ v _ (ix2 r q) (ix2 r ⟨128 + q.val, by omega⟩) fun a => ?_
  match a with
  | ⟨0, _⟩ => exact (Nat.zero_add r.val).symm
  | ⟨1, _⟩ => rfl
theorem last_apply (v : FVec Ideal S256x128 .bf16) (r : Fin 256) (q : Fin 128) : k0_pay25 (F := Ideal) v (ix3 0 r q) = v (ix2 r q) :=
  stacked_apply v shapeCasts_S256x128_S1x256x128 r q
theorem widened_apply (v : FVec Ideal S1x256x128 .bf16) (r : Fin 256) (q : Fin 128) : (k0_pay27 (F := Ideal) v (ix2 r q) : EReal) = v (ix3 0 r q) :=
  (shapeCast_dropUnit_apply (![256, 128]) v shapeCasts_S1x256x128_S256x128 (ix2 r q)).trans (congrArg v (cons_zero (ix2 r q)))

/-! ## Every block is a block of the whole product -/

section Whole
variable (m : (ℓ : Loc nD τ sig) → Buf (Elt Ideal) ℓ)
  (X : FVec Ideal ⟨2, ![4096, 4096]⟩ .f32) (W : FVec Ideal ⟨2, ![4096, 2048]⟩ .f32)

/-- Each device holds its 256 rows of `X`, and all of `W`. -/
def Holds : Prop := ∀ c : Dev nD, xOf m c = Layout.block ⟨2, ![256, 4096]⟩ ⟨2, ![4096, 4096]⟩ 0 16 c X ∧ wOf m c = W

variable {m X W}

/-- The product of a device's rows and some columns of its weights is that part of the whole product. -/
theorem part_of (H : Holds m X W) (b : Dev nD) {N : ℕ} (t : FVec Ideal ⟨3, ![1, 4096, N]⟩ .f32) (r : Fin 256) (q : Fin N) (R : Fin 4096) (Q : Fin 2048)
    (hR : R.val = 256 * b.val + r.val) (ht : ∀ k : Fin 4096, t (ix3 0 k q) = wOf m b (ix2 k Q)) : relu (xOf m b) (flat t) r q = relu X W R Q := by
  refine congrArg (max · 0) (Finset.sum_congr rfl fun k _ => ?_)
  show xOf m b (ix2 r k) * t (ix3 0 k q) = _
  rw [ht, (H b).1, (H b).2, Layout.block_apply]
  refine congrArg (fun i => X i * W (ix2 k Q)) ?_
  funext a
  fin_cases a <;> apply Fin.ext
  · show b.val * 256 + r.val = R.val; omega
  · rfl

theorem tile_apply (b : Dev nD) (j : Fin 8) (q : Fin 256) (Q : Fin 2048) (hQ : Q.val = 256 * j.val + q.val) (k : Fin 4096) :
    tileV m b j (ix3 0 k q) = wOf m b (ix2 k Q) :=
  congrArg (wOf m b) (by
    funext a
    fin_cases a <;> apply Fin.ext
    · rfl
    · exact hQ.symm)
theorem cols_apply (b c : Dev nD) (q : Fin 128) (Q : Fin 2048) (hQ : Q.val = 128 * c.val + q.val) (k : Fin 4096) :
    colsV m b c (ix3 0 k q) = wOf m b (ix2 k Q) :=
  congrArg (wOf m b) (by
    funext a
    fin_cases a <;> apply Fin.ext
    · rfl
    · exact hQ.symm)

/-- What device `b` sends from slot `ss` is its rows of the columns of the device it sends to. -/
theorem blk_apply (H : Holds m X W) (b : Dev nD) (ss : Fin 15) (r : Fin 256) (q : Fin 128) (R : Fin 4096) (Q : Fin 2048)
    (hR : R.val = 256 * b.val + r.val) (hQ : Q.val = 128 * (tgt b ss).val + q.val) : blkV m b ss (ix3 0 r q) = relu X W R Q := by
  unfold blkV
  have hs := ss.isLt
  split
  · next h =>
    rw [last_apply, narrow_apply]
    exact part_of H b _ r q R Q hR (cols_apply b _ q Q (by rw [hQ, show ss = 14 from Fin.ext h]))
  split
  · next h14 h =>
    have e : 256 * (tileIx b (ss.val / 2)).val = 128 * (tgt b ss).val :=
      (tgt_even b ⟨ss.val / 2, by omega⟩).trans (by rw [show (⟨2 * (ss.val / 2), _⟩ : Fin 15) = ss from Fin.ext (by show 2 * (ss.val / 2) = ss.val; omega)])
    rw [low_apply, wide_apply]
    exact part_of H b _ r _ R Q hR (tile_apply b _ _ Q (by show _ = _ + q.val; omega))
  · next h14 h =>
    have e : 256 * (tileIx b (ss.val / 2)).val + 128 = 128 * (tgt b ss).val :=
      (tgt_odd b ⟨ss.val / 2, by omega⟩).trans (by rw [show (⟨2 * (ss.val / 2) + 1, _⟩ : Fin 15) = ss from Fin.ext (by show 2 * (ss.val / 2) + 1 = ss.val; omega)])
    rw [high_apply, wide_apply]
    exact part_of H b _ r _ R Q hR (tile_apply b _ _ Q (by show _ = _ + (128 + q.val); omega))

/-- Every other device is reached from the slot its block lands in. -/
theorem peer_slotFrom : ∀ c b : Dev nD, b ≠ c → peer c (slotFrom c b).rev = b := by decide +kernel

/-- The rows of device `b` in `c`'s output are `b`'s rows of `c`'s columns. -/
theorem rows_apply (H : Holds m X W) (c b : Dev nD) (r : Fin 256) (q : Fin 128) (R : Fin 4096) (Q : Fin 2048)
    (hR : R.val = 256 * b.val + r.val) (hQ : Q.val = 128 * c.val + q.val) : rowsV m c b (ix2 r q) = relu X W R Q := by
  unfold rowsV
  split
  · next h =>
    subst h
    rw [own_apply]
    exact part_of H b _ r q R Q hR (cols_apply b b q Q hQ)
  · next h =>
    have hb := peer_slotFrom c b h
    rw [widened_apply]
    unfold landV
    rw [hb]
    refine blk_apply H b _ r q R Q hR ?_
    have ht : tgt b ((land b).symm (slotFrom c b)) = c := by
      have e := peer_rev' c (slotFrom c b)
      unfold tgt; rw [Equiv.apply_symm_apply]
      rwa [hb] at e
    rw [ht, hQ]

/-- A device's output is its block of columns of the whole product. -/
theorem out_apply (H : Holds m X W) (c : Dev nD) (i : S4096x128.Idx) (Q : Fin 2048) (hQ : Q.val = 128 * c.val + (i 1).val) :
    (oFn m c i : EReal) = relu X W (i 0) Q := by
  have h0 : (i 0).val < 4096 := (i 0).isLt
  have e := rows_apply H c ⟨(i 0).val / 256, by show _ < 16; omega⟩ ⟨(i 0).val % 256, Nat.mod_lt _ (by decide)⟩ (i 1) (i 0) Q
    (by show (i 0).val = 256 * ((i 0).val / 256) + (i 0).val % 256; omega) hQ
  refine Eq.trans ?_ e
  refine congrArg (rowsV m c ⟨(i 0).val / 256, _⟩) ?_
  funext a
  fin_cases a <;> rfl

end Whole

/-! ## The reference's value -/

/-- What the reference computes. -/
abbrev refV (X : FVec Ideal ⟨2, ![4096, 4096]⟩ .f32) (W : FVec Ideal ⟨2, ![4096, 2048]⟩ .f32) : FVec Ideal ⟨2, ![4096, 2048]⟩ .f32 :=
  maximumf (Host.dotGeneral Cert.ReferenceIdeal.dot_S4096x4096_S4096x2048_S4096x2048_1_0_0_1_n_n none X W)
    (broadcastInDim Cert.ReferenceIdeal.S4096x2048 ![] Cert.ReferenceIdeal.Facts₀.bcast_S_S4096x2048 (constant Cert.ReferenceIdeal.S_ .f32 0x00000000#32))

theorem ref_apply (X : FVec Ideal ⟨2, ![4096, 4096]⟩ .f32) (W : FVec Ideal ⟨2, ![4096, 2048]⟩ .f32) (r : Fin 4096) (q : Fin 2048) :
    refV X W (ix2 r q) = relu X W r q := by
  show max (Host.dotGeneral (DotDims.plain 4096 4096 2048) none X W (ix2 r q)) (Ideal.ofBits .f32 0x00000000#32) = _
  rw [StackMember.dotGeneral_plain_apply, Ideal.ofBits_zero_f32]
  rfl

/-- Each device's output is its block of columns of the reference's result. -/
theorem out_eq_block (m : (ℓ : Loc nD τ sig) → Buf (Elt Ideal) ℓ) (X : FVec Ideal ⟨2, ![4096, 4096]⟩ .f32) (W : FVec Ideal ⟨2, ![4096, 2048]⟩ .f32)
    (H : Holds m X W) (c : Dev nD) : oFn m c = Layout.block ⟨2, ![4096, 128]⟩ ⟨2, ![4096, 2048]⟩ 1 16 c (refV X W) := by
  funext i
  have h1 : (i 1).val < 128 := (i 1).isLt
  have hc : c.val < 16 := c.isLt
  rw [Layout.block_apply]
  refine (out_apply H c i ⟨128 * c.val + (i 1).val, by omega⟩ rfl).trans ((ref_apply X W _ _).symm.trans ?_)
  refine congrArg (refV X W) ?_
  funext a
  fin_cases a <;> apply Fin.ext
  · rfl
  · show 128 * c.val + (i 1).val = c.val * 128 + (i 1).val; omega

end Cert.Relay

end
-- ==== Proof.Claims.lean ====
/-
# Claims: the runs, as the claims state them
-/
module

public import proofs.«01_k».proof.Proof.Launch
public import proofs.«01_k».proof.Proof.Value
public import proofs.«01_k».proof.Proof.Gen.Kernel
public import proofs.«01_k».proof.Defs

@[expose] public section

noncomputable section

namespace Cert.Relay

open Idealize.ShloMosaic
open Idealize.ShloMosaic.TcCoe
open Idealize.SL.Sem

/-! The kernel and its reading over the exact reals are one program: nothing was replaced. -/

theorem body_same : Cert.Kernel.cc0_body (F := Bits) = Cert.KernelIdeal.cc0_body (F := Bits) := rfl
theorem bodies_same : Cert.Kernel.defs₀ (F := Bits) = Cert.KernelIdeal.defs₀ (F := Bits) := by
  unfold Cert.Kernel.defs₀ Cert.KernelIdeal.defs₀
  refine congrArg Defs.onTc (funext fun ℓ => funext fun x => ?_)
  match ℓ, x with
  | ⟨0, _⟩, (t, s) => rfl
theorem defs_same : Cert.Kernel.defs (F := Bits) = Cert.KernelIdeal.defs (F := Bits) :=
  congrArg (Pipeline.defs (Cert.KernelIdeal.pcfgs (F := Bits))) bodies_same

/-- The kernel runs to its end, at the chip's floats, with the arguments unchanged and every counter at zero. -/
theorem kernel_quiescent : Cert.quiescent_Kernel := fun m g _ => by
  rw [defs_same]
  exact (θ_run (Cert.KernelIdeal.defs (F := Bits)) _ _).mono (fun _ h => ⟨fun c => (h.1 c).1, h.2⟩) (run_main (F := Bits) m g)

/-- So it does over the exact reals. -/
theorem ideal_quiescent : Cert.quiescent_KernelIdeal := fun m g _ =>
  (θ_run (Cert.KernelIdeal.defs (F := Ideal)) _ _).mono (fun _ h => ⟨fun c => (h.1 c).1, h.2⟩) (run_main (F := Ideal) m g)

/-- Every device's result is its block of columns of what the reference computes. -/
theorem ideal_algebraic : Cert.algebraic_KernelIdeal_ReferenceIdeal := fun m g m' g' _ hin => by
  refine ⟨refV (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg1)), ?_, ?_⟩
  · exact (θ_run (Cert.KernelIdeal.defs (F := Ideal)) _ _).mono (fun _ h c => ⟨(h.1 c).2.trans (out_eq_block m _ _ hin c), (h.1 c).1⟩)
      (run_main (F := Ideal) m g)
  · exact (θ_run (Cert.ReferenceIdeal.defs (F := Ideal)) _ _).mono (fun _ h => h 0) (Cert.ReferenceIdeal.Value.run (F := Ideal) m' g')

/-- The reference runs to its end, with its arguments unchanged; it has no counter. -/
theorem ref_quiescent : Cert.quiescent_ReferenceIdeal := fun m g _ =>
  (θ_run (Cert.ReferenceIdeal.defs (F := Ideal)) _ _).mono
    (fun _ h => ⟨fun c => ⟨(h c).2.1, (h c).2.2⟩, funext fun sm => nomatch sm.2⟩) (Cert.ReferenceIdeal.Value.run (F := Ideal) m g)

end Cert.Relay

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Relay.kernel_quiescent, Cert.Relay.ideal_quiescent, Cert.Relay.ref_quiescent, trivial, Cert.Relay.ideal_algebraic⟩

end Cert.Proof

end
